-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S3 : Shape := ⟨1, ![3]⟩
abbrev S2 : Shape := ⟨1, ![2]⟩
abbrev S_ : Shape := ⟨0, ![]⟩
abbrev S1 : Shape := ⟨1, ![1]⟩
abbrev S80x512 : Shape := ⟨2, ![80, 512]⟩
abbrev S192x512 : Shape := ⟨2, ![192, 512]⟩

abbrev nBuf : Space → Nat
  | .hbm => 2
  | .vmem => 5
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_13 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_12 : BitVec 32 := 16#32
  let v25 : BitVec 32 := Scalar.muli v9 c16_i32_12
  let v26 : BitVec 32 := Scalar.addi c0_i32_13 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_14 : BitVec 32 := 4#32
  let v27 : BitVec 32 := Scalar.muli v5 c4_i32_14
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v29 : BitVec 32 := Scalar.muli v8 c1_i32_15
  let v30 : BitVec 32 := Scalar.addi v28 v29
  v30.toNat
def k0_dev2 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v31 : BitVec 32 := Scalar.muli v2 c16_i32_17
  let v32 : BitVec 32 := Scalar.addi c0_i32_18 v31
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v33 : BitVec 32 := Scalar.muli v5 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_20 : BitVec 32 := 1#32
  let v35 : BitVec 32 := Scalar.muli v10 c1_i32_20
  let v36 : BitVec 32 := Scalar.addi v34 v35
  v36.toNat
def k0_off1 (d0 : Dev nD) (c0_i32_25 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c160_i32 : BitVec 32 := 160#32
  let v21 : BitVec 32 := Scalar.muli v20 c160_i32
  let v42 : BitVec 32 := Scalar.addi v21 c0_i32_25
  let c0_i32_32 : BitVec 32 := 0#32
  ![v42.toNat, 0]
def k0_dev3 (d0 : Dev nD) : Nat :=
  let c0_i32_29 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_28 : BitVec 32 := 16#32
  let v44 : BitVec 32 := Scalar.muli v9 c16_i32_28
  let v45 : BitVec 32 := Scalar.addi c0_i32_29 v44
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_30 : BitVec 32 := 4#32
  let v46 : BitVec 32 := Scalar.muli v5 c4_i32_30
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v48 : BitVec 32 := Scalar.muli v8 c1_i32_31
  let v49 : BitVec 32 := Scalar.addi v47 v48
  v49.toNat
def k0_dev4 (d0 : Dev nD) : Nat :=
  let c0_i32_37 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_36 : BitVec 32 := 16#32
  let v56 : BitVec 32 := Scalar.muli v9 c16_i32_36
  let v57 : BitVec 32 := Scalar.addi c0_i32_37 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v58 : BitVec 32 := Scalar.muli v5 c4_i32_38
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v60 : BitVec 32 := Scalar.muli v8 c1_i32_39
  let v61 : BitVec 32 := Scalar.addi v59 v60
  v61.toNat
def k0_dev5 (d0 : Dev nD) : Nat :=
  let c0_i32_45 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_44 : BitVec 32 := 16#32
  let v68 : BitVec 32 := Scalar.muli v9 c16_i32_44
  let v69 : BitVec 32 := Scalar.addi c0_i32_45 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_46 : BitVec 32 := 4#32
  let v70 : BitVec 32 := Scalar.muli v5 c4_i32_46
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v72 : BitVec 32 := Scalar.muli v8 c1_i32_47
  let v73 : BitVec 32 := Scalar.addi v71 v72
  v73.toNat
def k0_dev6 (d0 : Dev nD) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_61 : BitVec 32 := 16#32
  let v90 : BitVec 32 := Scalar.muli v2 c16_i32_61
  let v91 : BitVec 32 := Scalar.addi c0_i32_62 v90
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_63 : BitVec 32 := 4#32
  let v92 : BitVec 32 := Scalar.muli v5 c4_i32_63
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_64 : BitVec 32 := 1#32
  let v94 : BitVec 32 := Scalar.muli v10 c1_i32_64
  let v95 : BitVec 32 := Scalar.addi v93 v94
  v95.toNat
def k0_off2 (d0 : Dev nD) (c0_i32_25 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c160_i32 : BitVec 32 := 160#32
  let v21 : BitVec 32 := Scalar.muli v20 c160_i32
  let v42 : BitVec 32 := Scalar.addi v21 c0_i32_25
  let v102 : Index := Scalar.indexCast v42
  let c0_67 : Index := 0#32
  ![v102.toNat, 0]
def k0_dev7 (d0 : Dev nD) : Nat :=
  let c0_i32_81 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_80 : BitVec 32 := 16#32
  let v119 : BitVec 32 := Scalar.muli v2 c16_i32_80
  let v120 : BitVec 32 := Scalar.addi c0_i32_81 v119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_82 : BitVec 32 := 4#32
  let v121 : BitVec 32 := Scalar.muli v5 c4_i32_82
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_83 : BitVec 32 := 1#32
  let v123 : BitVec 32 := Scalar.muli v10 c1_i32_83
  let v124 : BitVec 32 := Scalar.addi v122 v123
  v124.toNat
def k0_off3 (d0 : Dev nD) (c0_i32_104 : BitVec 32) : Fin 2 → Nat :=
  let c1_i32_9 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.subi c1_i32_9 v20
  let c160_i32_10 : BitVec 32 := 160#32
  let v23 : BitVec 32 := Scalar.muli v22 c160_i32_10
  let v152 : BitVec 32 := Scalar.addi v23 c0_i32_104
  let v163 : Index := Scalar.indexCast v152
  let c0_113 : Index := 0#32
  ![v163.toNat, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩
abbrev S2x512x512 : Shape := ⟨3, ![2, 512, 512]⟩
abbrev S_ : Shape := ⟨0, ![]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S2x512x512, .bf16⟩
  | .hbm, ⟨2, _⟩ => ⟨S2x512x512, .f32⟩
  | .hbm, ⟨3, _⟩ => ⟨S_, .f32⟩
  | .hbm, ⟨4, _⟩ => ⟨S512x512, .f32⟩
  | .hbm, ⟨5, _⟩ => ⟨S512x512, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Mesh.lean ====
/-
The mesh of 32 devices of the kernel: device `c` lies at `x = c / 16`, `y = c / 4 % 4`, `z = c % 4`. Each device talks
with two others only: its partner along `x` and its partner along `z` (the low bit of `z` flipped). This module names
both partners, shows that the kernel's computed device numbers are these, gives the kernel's computed row offsets in
closed form, and names the five groups of rows into which the kernel cuts a 512 x 512 buffer.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KProof

open Cert.KernelIdeal Cert.KernelIdeal.Gen
open Idealize.ShloMosaic
open Idealize.ShloMosaic.TcCoe
open Idealize.SL Idealize.SL.Sem

/-! ## The two partners -/

/-- The partner along `x`: the device with the other `x` and the same `y` and `z`. -/
def xp (c : Dev nD) : Dev nD := ⟨(c.val + 16) % 32, Nat.mod_lt _ (by decide)⟩
/-- The partner along `z`: the device with the low bit of `z` flipped. -/
def zp (c : Dev nD) : Dev nD := ⟨(c.val + 1 - 2 * (c.val % 2)) % 32, Nat.mod_lt _ (by decide)⟩

/-- Being the partner along `x` is mutual. -/
theorem xp_xp (c : Dev nD) : xp (xp c) = c := by revert c; decide +kernel
/-- Being the partner along `z` is mutual. -/
theorem zp_zp (c : Dev nD) : zp (zp c) = c := by revert c; decide +kernel

/-- The partners along `x`, as a rearrangement of the devices. -/
def xpE : Dev nD ≃ Dev nD := ⟨xp, xp, xp_xp, xp_xp⟩
/-- The partners along `z`, as a rearrangement of the devices. -/
def zpE : Dev nD ≃ Dev nD := ⟨zp, zp, zp_zp, zp_zp⟩

/-- Partners along `x` have the same parity. -/
theorem xp_par (c : Dev nD) : (xp c).val % 2 = c.val % 2 := by revert c; decide +kernel
/-- Partners along `z` have opposite parities. -/
theorem zp_par (c : Dev nD) : (zp c).val % 2 = 1 - c.val % 2 := by revert c; decide +kernel

/-- The first signal names the partner along `x`. -/
theorem dev1_eq (c : Dev nD) : (⟨k0_dev1 c, k0_dev1_lt c⟩ : Dev nD) = xp c := by revert c; decide +kernel
/-- The second signal names the partner along `z`. -/
theorem dev2_eq (c : Dev nD) : (⟨k0_dev2 c, k0_dev2_lt c⟩ : Dev nD) = zp c := by revert c; decide +kernel
/-- The first copy goes to the partner along `x`. -/
theorem dev3_eq (c : Dev nD) : (⟨k0_dev3 c, k0_dev3_lt c⟩ : Dev nD) = xp c := by revert c; decide +kernel
/-- The second copy goes to the partner along `x`. -/
theorem dev4_eq (c : Dev nD) : (⟨k0_dev4 c, k0_dev4_lt c⟩ : Dev nD) = xp c := by revert c; decide +kernel
/-- The third copy goes to the partner along `x`. -/
theorem dev5_eq (c : Dev nD) : (⟨k0_dev5 c, k0_dev5_lt c⟩ : Dev nD) = xp c := by revert c; decide +kernel
/-- The first relay goes to the partner along `z`. -/
theorem dev6_eq (c : Dev nD) : (⟨k0_dev6 c, k0_dev6_lt c⟩ : Dev nD) = zp c := by revert c; decide +kernel
/-- The second relay goes to the partner along `z`. -/
theorem dev7_eq (c : Dev nD) : (⟨k0_dev7 c, k0_dev7_lt c⟩ : Dev nD) = zp c := by revert c; decide +kernel

/-! ## The rows -/

/-- The first row of window `w` on device `c`: 0 and 1 are the device's own two windows (which it relays), 2 is the rest,
    3 and 4 are the two windows of its partner along `z`. -/
def lo (c : Dev nD) : Fin 5 → ℕ
  | 0 => 160 * (c.val % 2)
  | 1 => 160 * (c.val % 2) + 80
  | 2 => 320
  | 3 => 160 * (1 - c.val % 2)
  | 4 => 160 * (1 - c.val % 2) + 80
/-- How many rows window `w` has. -/
def len : Fin 5 → ℕ
  | 0 => 80 | 1 => 80 | 2 => 192 | 3 => 80 | 4 => 80

/-- The kernel's offsets of its own two windows, as it copies them. -/
theorem off1_0 (c : Dev nD) : k0_off1 c 0#32 = ![lo c 0, 0] := by revert c; decide +kernel
/-- The second of them. -/
theorem off1_1 (c : Dev nD) : k0_off1 c 80#32 = ![lo c 1, 0] := by revert c; decide +kernel
/-- The kernel's offsets of its own two windows, as it loads and stores them. -/
theorem off2_0 (c : Dev nD) : k0_off2 c 0#32 = ![lo c 0, 0] := by revert c; decide +kernel
/-- The second of them. -/
theorem off2_1 (c : Dev nD) : k0_off2 c 80#32 = ![lo c 1, 0] := by revert c; decide +kernel
/-- The kernel's offsets of its `z` partner's two windows, as it loads and stores them. -/
theorem off3_0 (c : Dev nD) : k0_off3 c 0#32 = ![lo c 3, 0] := by revert c; decide +kernel
/-- The second of them. -/
theorem off3_1 (c : Dev nD) : k0_off3 c 80#32 = ![lo c 4, 0] := by revert c; decide +kernel

/-- Partners along `x` have the same windows. -/
theorem lo_xp (c : Dev nD) (w : Fin 5) : lo (xp c) w = lo c w := by revert c w; decide +kernel
/-- The partner along `z` has, as its other windows, the device's own. -/
theorem lo_zp_0 (c : Dev nD) : lo (zp c) 3 = lo c 0 := by revert c; decide +kernel
/-- The second of them. -/
theorem lo_zp_1 (c : Dev nD) : lo (zp c) 4 = lo c 1 := by revert c; decide +kernel

/-- The elements of a 512 x 512 buffer in the `n` rows from row `a`. -/
def rows (a n : ℕ) : Finset S512x512.Idx := Finset.univ.filter fun i => a ≤ (i 0).val ∧ (i 0).val < a + n
/-- The elements of window `w` of device `c`. -/
def win (c : Dev nD) (w : Fin 5) : Finset S512x512.Idx := rows (lo c w) (len w)

theorem mem_rows {a n : ℕ} {i : S512x512.Idx} : i ∈ rows a n ↔ a ≤ (i 0).val ∧ (i 0).val < a + n := by
  unfold rows; rw [Finset.mem_filter]; exact ⟨fun h => h.2, fun h => ⟨Finset.mem_univ _, h⟩⟩

/-- Two windows of one device have no row in common. -/
theorem win_disjoint (c : Dev nD) (w w' : Fin 5) (h : w ≠ w') : Disjoint (win c w) (win c w') := by
  have key : ∀ c : Dev nD, ∀ w w' : Fin 5, w ≠ w' → lo c w + len w ≤ lo c w' ∨ lo c w' + len w' ≤ lo c w := by decide +kernel
  refine Finset.disjoint_left.mpr fun i hi hj => ?_
  have h1 := mem_rows.mp hi; have h2 := mem_rows.mp hj
  rcases key c w w' h with h3 | h3 <;> omega

/-- Each element lies in a window. -/
theorem win_cover (c : Dev nD) : (Finset.univ : Finset (Fin 5)).biUnion (win c) = Finset.univ := by
  have key : ∀ c : Dev nD, ∀ r : Fin 512, ∃ w : Fin 5, lo c w ≤ r.val ∧ r.val < lo c w + len w := by decide +kernel
  refine Finset.eq_univ_of_forall fun i => ?_
  obtain ⟨w, hw⟩ := key c ⟨(i 0).val, (i 0).isLt⟩
  exact Finset.mem_biUnion.mpr ⟨w, Finset.mem_univ _, mem_rows.mpr hw⟩

/-- The rectangle of `n` rows from row `a`, all columns, is those rows. -/
theorem rect_set {off : Fin 2 → ℕ} {a n : ℕ} (h : off = ![a, 0]) (inb : ∀ k, off k + (⟨2, ![n, 512]⟩ : Shape).size k ≤ S512x512.size k) :
    (Rect.unit (s := S512x512) off (⟨2, ![n, 512]⟩ : Shape).size inb).set = rows a n := by
  subst h
  ext i
  rw [Rect.mem_set_unit, mem_rows]
  refine ⟨fun hi => hi 0, fun hi k => ?_⟩
  have hk : ∀ k : Fin 2, k = 0 ∨ k = 1 := by decide
  rcases hk k with rfl | rfl
  · exact hi
  · refine ⟨Nat.zero_le _, ?_⟩
    have := (i 1).isLt
    exact lt_of_lt_of_eq this (Nat.zero_add _).symm

end Cert.KProof

end
-- ==== Proof.Sched.lean ====
/-
The protocol of the kernel. Each device has eleven semaphore cells: the barrier, three for the departures of its copies
along `x`, three for the landings of its partner's copies along `x`, two for the departures of its relays along `z`, and
two for the landings of its `z` partner's relays. Every cell is used for one round. This module says for each cell who
pays it, how much, and what each payment hands over; and at which level each cell lies, so that a device waits only
below what it still owes.
-/
module

public import proofs.«01_k».proof.Proof.Mesh
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's copy of the rounds and the kernel's own -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Buffers and cells -/

/-- The kernel's operand in its staging buffer. -/
abbrev xM : Memref sig .tc .vmem S512x512 .bf16 := Memref.whole cc0_stg0_0
/-- The kernel's result in its staging buffer. -/
abbrev oM : Memref sig .tc .vmem S512x512 .bf16 := Memref.whole cc0_stg1_0
/-- The buffer the device sends from. -/
abbrev sM : Memref sig .tc .vmem S512x512 .bf16 := Memref.whole cc0_scratch0
/-- The buffer its `x` partner writes into. -/
abbrev rM : Memref sig .tc .vmem S512x512 .bf16 := Memref.whole cc0_scratch1
/-- The buffer its `z` partner writes into. -/
abbrev zM : Memref sig .tc .vmem S512x512 .bf16 := Memref.whole cc0_scratch2

abbrev qB : Sem sig := (SemArray.scalar (sig.barrier 0 rfl) : Sems sig S_).sem
abbrev qS0 : DmaSem sig := ((cc0_scratch3.slice (Rect.unit (s := S3) ![0] S1.size inb_S3_S1_0)).squeeze S_ squeezes_S1_S_).sem
abbrev qS1 : DmaSem sig := ((cc0_scratch3.slice (Rect.unit (s := S3) ![1] S1.size inb_S3_S1_1)).squeeze S_ squeezes_S1_S_).sem
abbrev qS2 : DmaSem sig := ((cc0_scratch3.slice (Rect.unit (s := S3) ![2] S1.size inb_S3_S1_2)).squeeze S_ squeezes_S1_S_).sem
abbrev qR0 : DmaSem sig := ((cc0_scratch4.slice (Rect.unit (s := S3) ![0] S1.size inb_S3_S1_0)).squeeze S_ squeezes_S1_S_).sem
abbrev qR1 : DmaSem sig := ((cc0_scratch4.slice (Rect.unit (s := S3) ![1] S1.size inb_S3_S1_1)).squeeze S_ squeezes_S1_S_).sem
abbrev qR2 : DmaSem sig := ((cc0_scratch4.slice (Rect.unit (s := S3) ![2] S1.size inb_S3_S1_2)).squeeze S_ squeezes_S1_S_).sem
abbrev qT0 : DmaSem sig := ((cc0_scratch5.slice (Rect.unit (s := S2) ![0] S1.size inb_S2_S1_0)).squeeze S_ squeezes_S1_S_).sem
abbrev qT1 : DmaSem sig := ((cc0_scratch5.slice (Rect.unit (s := S2) ![1] S1.size inb_S2_S1_1)).squeeze S_ squeezes_S1_S_).sem
abbrev qZ0 : DmaSem sig := ((cc0_scratch6.slice (Rect.unit (s := S2) ![0] S1.size inb_S2_S1_0)).squeeze S_ squeezes_S1_S_).sem
abbrev qZ1 : DmaSem sig := ((cc0_scratch6.slice (Rect.unit (s := S2) ![1] S1.size inb_S2_S1_1)).squeeze S_ squeezes_S1_S_).sem

/-- The eleven semaphores of a device: barrier; departures along `x`; landings along `x`; departures along `z`; landings
    along `z`. -/
abbrev csem : Fin 11 → SemLoc sig := fun
  | 0 => .reg qB
  | 1 => .dma qS0 | 2 => .dma qS1 | 3 => .dma qS2
  | 4 => .dma qR0 | 5 => .dma qR1 | 6 => .dma qR2
  | 7 => .dma qT0 | 8 => .dma qT1
  | 9 => .dma qZ0 | 10 => .dma qZ1
/-- Cell `k` of device `c`. -/
abbrev kcell (ck : Dev nD × Fin 11) : GSem nD τ sig := ((ck.1 : Thread nD τ), csem ck.2)

/-- Which of the eleven semaphores this one is, if any. -/
def kind (s : SemLoc sig) : Option (Fin 11) := (List.finRange 11).find? fun k => decide (csem k = s)

theorem kind_csem (k : Fin 11) : kind (csem k) = some k := by revert k; decide +kernel
theorem csem_injective : Function.Injective csem := fun a b h => Option.some.inj (by rw [← kind_csem, h, kind_csem])

/-- What a copy of 80 rows credits. -/
abbrev N80 : ℕ := (cc0_scratch1 : Ref sig .tc).dmaCredit S80x512 .bf16
/-- What a copy of 192 rows credits. -/
abbrev N192 : ℕ := (cc0_scratch1 : Ref sig .tc).dmaCredit S192x512 .bf16

theorem N80_pos : 0 < N80 := sig.dmaCredit_pos _ _ _ _ _ (by decide)
theorem N192_pos : 0 < N192 := sig.dmaCredit_pos _ _ _ _ _ (by decide)

/-- What one payment onto semaphore `k` credits. -/
def amt : Fin 11 → ℕ
  | 0 => 1
  | 1 => N80 | 2 => N80 | 3 => N192
  | 4 => N80 | 5 => N80 | 6 => N192
  | 7 => N80 | 8 => N80
  | 9 => N80 | 10 => N80

theorem amt_pos (k : Fin 11) : 0 < amt k := by
  fin_cases k
  · exact Nat.one_pos
  all_goals first | exact N80_pos | exact N192_pos

/-! ## Contents -/

/-- What the operand's staging buffer holds on device `c`: the device's block. -/
def xstg (c : Dev nD) : (cc0_stg0_0 : Ref sig .tc).ty.Contents (Elt F) :=
  (win0_0.blk (0 : Fin 1)).view.read (Elt F) ((s₀ m ρ).mem ((c : Thread nD τ).loc main_arg0))

/-- What device `c` sends: its block. -/
def XS (c : Dev nD) : S512x512.Idx → Elt F .bf16 := k0_pay1 (xstg m ρ c)

/-- The half of a share that a copy holds while it is under way, -/
abbrev hl : PosShare TreeShare := fullShare.left
/-- and the half that the device keeps to read by. -/
abbrev hr : PosShare TreeShare := fullShare.right

/-- Window `w` of device `c`'s sending buffer, at share `q`, with contents `f`. -/
def sP (c : Dev nD) (w : Fin 5) (q : PosShare TreeShare) (f : S512x512.Idx → Elt F .bf16) : sProp 𝕄 :=
  ((c : Thread nD τ).loc cc0_scratch0) ↦[win c w]{q} f
/-- Window `w` of the buffer that `c`'s `x` partner writes into. -/
def rP (c : Dev nD) (w : Fin 5) (q : PosShare TreeShare) (f : S512x512.Idx → Elt F .bf16) : sProp 𝕄 :=
  ((c : Thread nD τ).loc cc0_scratch1) ↦[win c w]{q} f
/-- Window `w` of the buffer that `c`'s `z` partner writes into. -/
def zP (c : Dev nD) (w : Fin 5) (q : PosShare TreeShare) (f : S512x512.Idx → Elt F .bf16) : sProp 𝕄 :=
  ((c : Thread nD τ).loc cc0_scratch2) ↦[win c w]{q} f

omit [FloatOps F] in
instance sP_storable (c : Dev nD) (w q f) : BI.Storable (upEmb : UEmb _ 𝕄) (sP (F := F) c w q f) := by unfold sP; infer_instance
omit [FloatOps F] in
instance rP_storable (c : Dev nD) (w q f) : BI.Storable (upEmb : UEmb _ 𝕄) (rP (F := F) c w q f) := by unfold rP; infer_instance
omit [FloatOps F] in
instance zP_storable (c : Dev nD) (w q f) : BI.Storable (upEmb : UEmb _ 𝕄) (zP (F := F) c w q f) := by unfold zP; infer_instance

/-! ## The schedule -/

/-- What the `x` partner's barrier signal hands device `c`: the partner's three windows that `c` will write into. -/
def barX (c : Dev nD) : sProp 𝕄 :=
  iprop((∃ f, rP (F := F) (xp c) 0 fullShare f) ∗ (∃ f, rP (F := F) (xp c) 1 fullShare f) ∗ (∃ f, rP (F := F) (xp c) 2 fullShare f))
/-- What the `z` partner's barrier signal hands device `c`: the partner's two windows that `c` will write into. -/
def barZ (c : Dev nD) : sProp 𝕄 :=
  iprop((∃ f, zP (F := F) (zp c) 3 fullShare f) ∗ (∃ f, zP (F := F) (zp c) 4 fullShare f))

/-- What a payment onto cell `k` of device `c` hands over. A landing along `x` hands the window with the `x` partner's
    block in it; a landing along `z` hands the window with the block of the `z` partner's `x` partner; a departure hands
    back the half share of the window that the copy read. -/
def pay (c : Dev nD) : Fin 11 → Bool → sProp 𝕄
  | 0, false => barX c
  | 0, true => barZ c
  | 1, _ => sP c 0 hl (XS m ρ c)
  | 2, _ => sP c 1 hl (XS m ρ c)
  | 3, _ => sP c 2 hl (XS m ρ c)
  | 4, _ => rP c 0 fullShare (XS m ρ (xp c))
  | 5, _ => rP c 1 fullShare (XS m ρ (xp c))
  | 6, _ => rP c 2 fullShare (XS m ρ (xp c))
  | 7, _ => rP c 0 hl (XS m ρ (xp c))
  | 8, _ => rP c 1 hl (XS m ρ (xp c))
  | 9, _ => zP c 3 fullShare (XS m ρ (xp (zp c)))
  | 10, _ => zP c 4 fullShare (XS m ρ (xp (zp c)))

instance pay_storable (c : Dev nD) (k : Fin 11) (d : Bool) : BI.Storable (upEmb : UEmb _ 𝕄) (pay (F := F) m ρ c k d) := by
  fin_cases k
  · cases d
    · show BI.Storable upEmb (barX (F := F) c)
      unfold barX; infer_instance
    · show BI.Storable upEmb (barZ (F := F) c)
      unfold barZ; infer_instance
  · show BI.Storable upEmb (sP c 0 hl (XS m ρ c)); infer_instance
  · show BI.Storable upEmb (sP c 1 hl (XS m ρ c)); infer_instance
  · show BI.Storable upEmb (sP c 2 hl (XS m ρ c)); infer_instance
  · show BI.Storable upEmb (rP c 0 fullShare (XS m ρ (xp c))); infer_instance
  · show BI.Storable upEmb (rP c 1 fullShare (XS m ρ (xp c))); infer_instance
  · show BI.Storable upEmb (rP c 2 fullShare (XS m ρ (xp c))); infer_instance
  · show BI.Storable upEmb (rP c 0 hl (XS m ρ (xp c))); infer_instance
  · show BI.Storable upEmb (rP c 1 hl (XS m ρ (xp c))); infer_instance
  · show BI.Storable upEmb (zP c 3 fullShare (XS m ρ (xp (zp c)))); infer_instance
  · show BI.Storable upEmb (zP c 4 fullShare (XS m ρ (xp (zp c)))); infer_instance

/-- Which payments cell `k` receives: the barrier two, every other cell one. -/
def dut (k : Fin 11) : Finset Bool := if k = 0 then Finset.univ else {false}

/-- One round, round 0: each of the eleven cells of a device receives its payments. -/
def Rd : Rounds.Schedule (GSem nD τ sig) Bool 𝕄 where
  duties g r := if r = 0 ∧ g.1.2 = .tc then (kind g.2).elim ∅ dut else ∅
  unitless _ := False
  amount g _ _ := (kind g.2).elim 1 amt
  payload g _ d := (kind g.2).elim iprop(emp) fun k => pay m ρ g.1.1 k d
  amount_pos g _ _ _ := by
    cases h : kind g.2 with
    | none => exact Nat.one_pos
    | some k => exact amt_pos k

instance Rd_payload_storable (g : GSem nD τ sig) (r : ℕ) (d : Bool) :
    BI.Storable (upEmb : UEmb _ 𝕄) ((Rd (F := F) m ρ).payload g r d) := by
  show BI.Storable upEmb ((kind g.2).elim (iprop(emp) : sProp 𝕄) fun k => pay m ρ g.1.1 k d)
  cases h : kind g.2 with
  | none => show BI.Storable upEmb (iprop(emp) : sProp 𝕄); infer_instance
  | some k => show BI.Storable upEmb (pay m ρ g.1.1 k d); infer_instance

section Tables
variable (c : Dev nD) (k : Fin 11) (d : Bool)

theorem duties_eq : (Rd (F := F) m ρ).duties (kcell (c, k)) 0 = dut k := by
  dsimp only [Rd]; rw [if_pos ⟨rfl, rfl⟩, kind_csem]; rfl
theorem duties_later (g : GSem nD τ sig) : ∀ r, 1 ≤ r → (Rd (F := F) m ρ).duties g r = ∅ :=
  fun r hr => by dsimp only [Rd]; rw [if_neg fun h => by omega]
theorem amount_eq : (Rd (F := F) m ρ).amount (kcell (c, k)) 0 d = amt k := by
  dsimp only [Rd]; rw [kind_csem]; rfl
theorem payload_eq : (Rd (F := F) m ρ).payload (kcell (c, k)) 0 d = pay m ρ c k d := by
  dsimp only [Rd]; rw [kind_csem]; rfl
theorem expect_bar : (Rd (F := F) m ρ).expect (kcell (c, 0)) 0 = 2 := by
  unfold Schedule.expect Schedule.amountOf
  rw [duties_eq, Finset.sum_congr rfl fun d _ => amount_eq m ρ c 0 d]; rfl
theorem expect_eq (hk : k ≠ 0) : (Rd (F := F) m ρ).expect (kcell (c, k)) 0 = amt k := by
  unfold Schedule.expect Schedule.amountOf
  rw [duties_eq, dut, if_neg hk, Finset.sum_singleton, amount_eq]
theorem mem_duties (hk : k ≠ 0) : false ∈ (Rd (F := F) m ρ).duties (kcell (c, k)) 0 := by
  rw [duties_eq, dut, if_neg hk]; exact Finset.mem_singleton_self _
theorem mem_bar : d ∈ (Rd (F := F) m ρ).duties (kcell (c, 0)) 0 := by
  rw [duties_eq]; exact Finset.mem_univ _

/-- The two payments of a barrier. -/
theorem rest_bar : bigSep ((Rd (F := F) m ρ).duties (kcell (c, 0)) 0 \ ∅) (fun d => (Rd (F := F) m ρ).payload (kcell (c, 0)) 0 d)
    = iprop(barX c ∗ barZ c) := by
  rw [Finset.sdiff_empty, duties_eq, bigSep_congr fun d _ => payload_eq m ρ c 0 d, dut, if_pos rfl,
    bigSep_univ_eq_bigSepL [false, true] (by decide) (by decide), bigSepL_cons_cons, bigSepL_singleton]
  rfl
/-- The one payment of every other cell. -/
theorem rest_eq (hk : k ≠ 0) :
    bigSep ((Rd (F := F) m ρ).duties (kcell (c, k)) 0 \ ∅) (fun d => (Rd (F := F) m ρ).payload (kcell (c, k)) 0 d) = pay m ρ c k false := by
  rw [Finset.sdiff_empty, duties_eq, dut, if_neg hk, bigSep_singleton, payload_eq]

end Tables

/-! ## What each device owes at launch, in the order in which it pays -/

/-- After the first relay: the second relay. -/
def O₆ (c : Dev nD) : CellTallies nD τ sig Unit := tallyAt (kcell (zp c, 10)) () (amt 10)
/-- After the three copies along `x`: both relays. -/
def O₅ (c : Dev nD) : CellTallies nD τ sig Unit := O₆ c + tallyAt (kcell (zp c, 9)) () (amt 9)
def O₄ (c : Dev nD) : CellTallies nD τ sig Unit := O₅ c + tallyAt (kcell (xp c, 6)) () (amt 6)
def O₃ (c : Dev nD) : CellTallies nD τ sig Unit := O₄ c + tallyAt (kcell (xp c, 5)) () (amt 5)
/-- After both barrier signals: the three copies and both relays. -/
def O₂ (c : Dev nD) : CellTallies nD τ sig Unit := O₃ c + tallyAt (kcell (xp c, 4)) () (amt 4)
def O₁ (c : Dev nD) : CellTallies nD τ sig Unit := O₂ c + tallyAt (kcell (zp c, 0)) () 1
/-- At launch: all of it. -/
def O₀ (c : Dev nD) : CellTallies nD τ sig Unit := O₁ c + tallyAt (kcell (xp c, 0)) () 1

def L (g : GSem nD τ sig) : Finset Unit := if g.1.2 = .tc then {()} else ∅
/-- The level of semaphore `k`: the barrier 1, landings along `x` 2, landings along `z` 3, departures 0. -/
def lvK : Fin 11 → ℕ
  | 0 => 1 | 4 => 2 | 5 => 2 | 6 => 2 | 9 => 3 | 10 => 3 | _ => 0
/-- The level of a cell; the staging cells are at 0. -/
def lv (g : GSem nD τ sig) (_ : Unit) : ℕ := (kind g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Fin 11) (u : Unit) : lv (kcell (c, k)) u = lvK k := by
  unfold lv; rw [kind_csem]; rfl

/-- Every cell that `O` owes anything is one of the eleven of a device, above level `n`. -/
def Above (n : ℕ) (O : CellTallies nD τ sig Unit) : Prop := ∀ g u, 0 < O g u → ∃ d k, g = kcell (d, k) ∧ n < lvK k

theorem above_tally {n : ℕ} (d : Dev nD) (k : Fin 11) (a : ℕ) (h : n < lvK k) : Above n (tallyAt (kcell (d, k)) () a) := fun g u hg => by
  rw [tallyAt_apply] at hg
  by_cases h' : g = kcell (d, k) ∧ u = ()
  · exact ⟨d, k, h'.1, h⟩
  · rw [if_neg h'] at hg; exact absurd hg (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0

theorem above_O₆ (c : Dev nD) : Above 2 (O₆ c) := above_tally _ _ _ (by decide)
theorem above_O₅ (c : Dev nD) : Above 2 (O₅ c) := above_add (above_O₆ c) (above_tally _ _ _ (by decide))
theorem above_mono {n n' : ℕ} (h : n ≤ n') {O : CellTallies nD τ sig Unit} (hO : Above n' O) : Above n O := fun g u hg => by
  obtain ⟨d, k, e, hk⟩ := hO g u hg; exact ⟨d, k, e, lt_of_le_of_lt h hk⟩
theorem above_O₂ (c : Dev nD) : Above 1 (O₂ c) :=
  above_add (above_add (above_add (above_mono (by decide) (above_O₅ c)) (above_tally _ _ _ (by decide))) (above_tally _ _ _ (by decide)))
    (above_tally _ _ _ (by decide))
theorem above_O₀ (c : Dev nD) : Above 0 (O₀ c) :=
  above_add (above_add (above_mono (by decide) (above_O₂ c)) (above_tally _ _ _ (by decide))) (above_tally _ _ _ (by decide))

omit [FloatOps F] in
/-- A device may wait on a cell at a level not above `n` while everything it owes lies above `n`. -/
theorem mayWait (c : Dev nD) (sm : SemLoc sig) (n : ℕ) (hn : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hn)
    (fun g u hg => by obtain ⟨d, k, rfl, hk⟩ := hO g u hg; rw [lv_kcell]; exact hk)

end Cert.KProof

end
-- ==== Proof.Windows.lean ====
/-
The five windows of a buffer held one by one: a whole buffer is its five windows, a window is its two half shares, and
five windows with contents of their own make up a whole buffer again. What a copy of a window leaves, and what the five
stores leave in the result.
-/
module

public import proofs.«01_k».proof.Proof.Sched

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A family over five indices, written out. -/
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## Cutting a buffer into its windows and putting it together -/

omit [FloatOps F] in
/-- A whole buffer is five pairwise disjoint sets of elements that cover it. -/
theorem split5 {ℓ : Loc nD τ sig} (K : Fin 5 → Finset (Idx ℓ)) (hd : ∀ w w', w ≠ w' → Disjoint (K w) (K w'))
    (hc : (Finset.univ : Finset (Fin 5)).biUnion K = Finset.univ) (q : PosShare TreeShare) (f : Buf (Elt F) ℓ) :
    (ℓ ↦{q} f : sProp 𝕄) = iprop((ℓ ↦[K 0]{q} f) ∗ (ℓ ↦[K 1]{q} f) ∗ (ℓ ↦[K 2]{q} f) ∗ (ℓ ↦[K 3]{q} f) ∗ (ℓ ↦[K 4]{q} f)) := by
  rw [← bigSep_fin5 (F := F) (fun w => (ℓ ↦[K w]{q} f)), ← pointsTo_biUnion _ K fun w _ w' _ h => hd w w' h, hc]

omit [FloatOps F] in
/-- Five such sets, each with contents of its own, are the whole buffer with some contents. -/
theorem join5 {ℓ : Loc nD τ sig} (K : Fin 5 → Finset (Idx ℓ)) (hd : ∀ w w', w ≠ w' → Disjoint (K w) (K w'))
    (hc : (Finset.univ : Finset (Fin 5)).biUnion K = Finset.univ) (q : PosShare TreeShare) (f₀ f₁ f₂ f₃ f₄ : Buf (Elt F) ℓ) :
    iprop((ℓ ↦[K 0]{q} f₀) ∗ (ℓ ↦[K 1]{q} f₁) ∗ (ℓ ↦[K 2]{q} f₂) ∗ (ℓ ↦[K 3]{q} f₃) ∗ (ℓ ↦[K 4]{q} f₄))
      ⊢ (iprop(∃ g, ℓ ↦{q} g) : sProp 𝕄) := by
  have h := pointsTo_biUnion_join (Ix := Unit) (Name := ℕ) (U := UU) (Lvl := ℕ) (Val := Elt F) (q := q) Finset.univ K
    (fun w : Fin 5 => match w with | 0 => f₀ | 1 => f₁ | 2 => f₂ | 3 => f₃ | 4 => f₄) f₀ fun w _ w' _ h => hd w w' h
  rw [bigSep_fin5, hc] at h
  refine (show _ ⊢ _ from h).trans ?_
  iintro ⟨%g, -, H⟩
  iexists g; iexact H

omit [FloatOps F] in
/-- The sending buffer cut into its windows. -/
theorem s_split (c : Dev nD) (f : S512x512.Idx → Elt F .bf16) :
    (((c : Thread nD τ).loc cc0_scratch0) ↦{fullShare} (f : Buf (Elt F) ((c : Thread nD τ).loc cc0_scratch0)) : sProp 𝕄)
      = iprop(sP c 0 fullShare f ∗ sP c 1 fullShare f ∗ sP c 2 fullShare f ∗ sP c 3 fullShare f ∗ sP c 4 fullShare f) :=
  split5 (ℓ := (c : Thread nD τ).loc cc0_scratch0) (win c) (win_disjoint c) (win_cover c) fullShare f
omit [FloatOps F] in
/-- The `x` partner's buffer cut into its windows. -/
theorem r_split (c : Dev nD) (f : S512x512.Idx → Elt F .bf16) :
    (((c : Thread nD τ).loc cc0_scratch1) ↦{fullShare} (f : Buf (Elt F) ((c : Thread nD τ).loc cc0_scratch1)) : sProp 𝕄)
      = iprop(rP c 0 fullShare f ∗ rP c 1 fullShare f ∗ rP c 2 fullShare f ∗ rP c 3 fullShare f ∗ rP c 4 fullShare f) :=
  split5 (ℓ := (c : Thread nD τ).loc cc0_scratch1) (win c) (win_disjoint c) (win_cover c) fullShare f
omit [FloatOps F] in
/-- The `z` partner's buffer cut into its windows. -/
theorem z_split (c : Dev nD) (f : S512x512.Idx → Elt F .bf16) :
    (((c : Thread nD τ).loc cc0_scratch2) ↦{fullShare} (f : Buf (Elt F) ((c : Thread nD τ).loc cc0_scratch2)) : sProp 𝕄)
      = iprop(zP c 0 fullShare f ∗ zP c 1 fullShare f ∗ zP c 2 fullShare f ∗ zP c 3 fullShare f ∗ zP c 4 fullShare f) :=
  split5 (ℓ := (c : Thread nD τ).loc cc0_scratch2) (win c) (win_disjoint c) (win_cover c) fullShare f

omit [FloatOps F] in
/-- The sending buffer put together. -/
theorem s_join (c : Dev nD) (f₀ f₁ f₂ f₃ f₄ : S512x512.Idx → Elt F .bf16) :
    iprop(sP c 0 fullShare f₀ ∗ sP c 1 fullShare f₁ ∗ sP c 2 fullShare f₂ ∗ sP c 3 fullShare f₃ ∗ sP c 4 fullShare f₄)
      ⊢ (iprop(∃ g, ((c : Thread nD τ).loc cc0_scratch0) ↦{fullShare} g) : sProp 𝕄) :=
  join5 (ℓ := (c : Thread nD τ).loc cc0_scratch0) (win c) (win_disjoint c) (win_cover c) fullShare f₀ f₁ f₂ f₃ f₄
omit [FloatOps F] in
/-- The `x` partner's buffer put together. -/
theorem r_join (c : Dev nD) (f₀ f₁ f₂ f₃ f₄ : S512x512.Idx → Elt F .bf16) :
    iprop(rP c 0 fullShare f₀ ∗ rP c 1 fullShare f₁ ∗ rP c 2 fullShare f₂ ∗ rP c 3 fullShare f₃ ∗ rP c 4 fullShare f₄)
      ⊢ (iprop(∃ g, ((c : Thread nD τ).loc cc0_scratch1) ↦{fullShare} g) : sProp 𝕄) :=
  join5 (ℓ := (c : Thread nD τ).loc cc0_scratch1) (win c) (win_disjoint c) (win_cover c) fullShare f₀ f₁ f₂ f₃ f₄
omit [FloatOps F] in
/-- The `z` partner's buffer put together. -/
theorem z_join (c : Dev nD) (f₀ f₁ f₂ f₃ f₄ : S512x512.Idx → Elt F .bf16) :
    iprop(zP c 0 fullShare f₀ ∗ zP c 1 fullShare f₁ ∗ zP c 2 fullShare f₂ ∗ zP c 3 fullShare f₃ ∗ zP c 4 fullShare f₄)
      ⊢ (iprop(∃ g, ((c : Thread nD τ).loc cc0_scratch2) ↦{fullShare} g) : sProp 𝕄) :=
  join5 (ℓ := (c : Thread nD τ).loc cc0_scratch2) (win c) (win_disjoint c) (win_cover c) fullShare f₀ f₁ f₂ f₃ f₄

omit [FloatOps F] in
/-- A window of the sending buffer is its two half shares. -/
theorem s_half (c : Dev nD) (w : Fin 5) (f : S512x512.Idx → Elt F .bf16) :
    (sP c w fullShare f : sProp 𝕄) ⊣⊢ iprop(sP c w hl f ∗ sP c w hr f) := by
  unfold sP; exact pointsTo_share (PosShare.mem_left_op_right _)
omit [FloatOps F] in
/-- A window of the `x` partner's buffer is its two half shares. -/
theorem r_half (c : Dev nD) (w : Fin 5) (f : S512x512.Idx → Elt F .bf16) :
    (rP c w fullShare f : sProp 𝕄) ⊣⊢ iprop(rP c w hl f ∗ rP c w hr f) := by
  unfold rP; exact pointsTo_share (PosShare.mem_left_op_right _)

/-! ## What a copy of a window leaves -/

omit [FloatOps F] in
/-- A window copied along `x` holds what its source held, whatever was there before. -/
theorem land_x (r : Rect S512x512) (fd fs : S512x512.Idx → Elt F .bf16) (i : S512x512.Idx) (hi : i ∈ r.set) :
    ((View.whole cc0_scratch1).slice r : View sig .tc _ _ _).write (Elt F) fd (((View.whole cc0_scratch0).slice r : View sig .tc _ _ _).read (Elt F) fs) Finset.univ i = fs i := by
  rw [← Rect.map_emb_univ] at hi
  obtain ⟨x, -, rfl⟩ := Finset.mem_map.mp hi
  exact View.write_emb_of_mem (v := ((View.whole cc0_scratch1).slice r : View sig .tc _ _ _)) _ _ (Finset.mem_univ x)
omit [FloatOps F] in
/-- A window copied along `z` holds what its source held, whatever was there before. -/
theorem land_z (r : Rect S512x512) (fd fs : S512x512.Idx → Elt F .bf16) (i : S512x512.Idx) (hi : i ∈ r.set) :
    ((View.whole cc0_scratch2).slice r : View sig .tc _ _ _).write (Elt F) fd (((View.whole cc0_scratch1).slice r : View sig .tc _ _ _).read (Elt F) fs) Finset.univ i = fs i := by
  rw [← Rect.map_emb_univ] at hi
  obtain ⟨x, -, rfl⟩ := Finset.mem_map.mp hi
  exact View.write_emb_of_mem (v := ((View.whole cc0_scratch2).slice r : View sig .tc _ _ _)) _ _ (Finset.mem_univ x)

/-! ## What the five stores leave in the result -/

/-- The elementwise sum. -/
def sum2 (A B : S512x512.Idx → Elt F .bf16) : S512x512.Idx → Elt F .bf16 := addf (F := F) (s := S512x512) (φ := .bf16) A B

/-- A store of the sum of two windows leaves the elementwise sum on the window and the rest as it was (the second window
    from the `x` partner's buffer). -/
theorem store_x (r : Rect S512x512) (f A B : S512x512.Idx → Elt F .bf16) :
    (oM.access r).write (Elt F) f (addf (F := F) (φ := .bf16) ((sM.access r).read (Elt F) A) ((rM.access r).read (Elt F) B)) Finset.univ
      = r.set.piecewise (sum2 A B) f := by
  funext i
  by_cases hi : i ∈ r.set
  · rw [Finset.piecewise_eq_of_mem _ _ _ hi]
    rw [← Rect.map_emb_univ] at hi
    obtain ⟨x, -, rfl⟩ := Finset.mem_map.mp hi
    exact View.write_emb_of_mem (v := ((View.whole cc0_stg1_0).slice r : View sig .tc _ _ _)) _ _ (Finset.mem_univ x)
  · rw [Finset.piecewise_eq_of_notMem _ _ _ hi]
    exact View.write_of_not_mem (v := ((View.whole cc0_stg1_0).slice r : View sig .tc _ _ _)) _ _ _
      (by rw [View.setOn_univ, View.set_slice_whole]; exact hi)
/-- The same, the second window from the `z` partner's buffer. -/
theorem store_z (r : Rect S512x512) (f A B : S512x512.Idx → Elt F .bf16) :
    (oM.access r).write (Elt F) f (addf (F := F) (φ := .bf16) ((sM.access r).read (Elt F) A) ((zM.access r).read (Elt F) B)) Finset.univ
      = r.set.piecewise (sum2 A B) f := store_x r f A B

/-- What the kernel computes on device `c`: its block plus the `x` partner's, the rows of the `z` partner's two windows
    taken from the block of the `z` partner's `x` partner. -/
def outAt (c : Dev nD) : S512x512.Idx → Elt F .bf16 := fun i =>
  if i ∈ win c 3 ∨ i ∈ win c 4 then sum2 (XS m ρ c) (XS m ρ (xp (zp c))) i else sum2 (XS m ρ c) (XS m ρ (xp c)) i

/-- The five stores one over another leave the result, whatever was there before. -/
theorem out_eq (c : Dev nD) (f : S512x512.Idx → Elt F .bf16) :
    (win c 4).piecewise (sum2 (XS m ρ c) (XS m ρ (xp (zp c)))) ((win c 3).piecewise (sum2 (XS m ρ c) (XS m ρ (xp (zp c))))
      ((win c 2).piecewise (sum2 (XS m ρ c) (XS m ρ (xp c))) ((win c 1).piecewise (sum2 (XS m ρ c) (XS m ρ (xp c)))
        ((win c 0).piecewise (sum2 (XS m ρ c) (XS m ρ (xp c))) f)))) = outAt m ρ c := by
  funext i
  have hc : i ∈ (Finset.univ : Finset (Fin 5)).biUnion (win c) := by rw [win_cover c]; exact Finset.mem_univ i
  obtain ⟨w, -, hw⟩ := Finset.mem_biUnion.mp hc
  unfold outAt
  by_cases h4 : i ∈ win c 4
  · rw [Finset.piecewise_eq_of_mem _ _ _ h4, if_pos (Or.inr h4)]
  rw [Finset.piecewise_eq_of_notMem _ _ _ h4]
  by_cases h3 : i ∈ win c 3
  · rw [Finset.piecewise_eq_of_mem _ _ _ h3, if_pos (Or.inl h3)]
  rw [Finset.piecewise_eq_of_notMem _ _ _ h3, if_neg (not_or.mpr ⟨h3, h4⟩)]
  by_cases h2 : i ∈ win c 2
  · rw [Finset.piecewise_eq_of_mem _ _ _ h2]
  rw [Finset.piecewise_eq_of_notMem _ _ _ h2]
  by_cases h1 : i ∈ win c 1
  · rw [Finset.piecewise_eq_of_mem _ _ _ h1]
  rw [Finset.piecewise_eq_of_notMem _ _ _ h1]
  have h0 : i ∈ win c 0 := by
    fin_cases w
    · exact hw
    · exact absurd hw h1
    · exact absurd hw h2
    · exact absurd hw h3
    · exact absurd hw h4
  rw [Finset.piecewise_eq_of_mem _ _ _ h0]

end Cert.KProof

end
-- ==== Proof.Steps.lean ====
/-
The steps of a run, each for any window and cell: a copy along `x`, a relay along `z`, a wait that closes its cell, and
the loads and stores of a window.
-/
module

public import proofs.«01_k».proof.Proof.Windows

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A cell named by its number is the cell named by its semaphore. -/
theorem kcell_of (c : Dev nD) {k : Fin 11} {s : SemLoc sig} (h : csem k = s) : kcell (c, k) = ((c : Thread nD τ), s) :=
  congrArg (Prod.mk _) h

omit [FloatOps F] in
/-- The elements of a window of the sending buffer, by its view. -/
theorem sP_view (c : Dev nD) (w : Fin 5) (q : PosShare TreeShare) (f : S512x512.Idx → Elt F .bf16) (r : Rect S512x512) (hr : ∀ a, r.stride a = 1) (hs : r.set = win c w) :
    (sP c w q f : sProp 𝕄) = ((sM.slice r hr).view.loc (c : Thread nD τ) ↦[(sM.slice r hr).view.set]{q} f) := by
  have h : (sM.slice r hr).view.set = win c w := (View.set_slice_whole cc0_scratch0 r).trans hs
  rw [h]; rfl
omit [FloatOps F] in
/-- The elements of a window of the `x` partner's buffer, by its view. -/
theorem rP_view (c : Dev nD) (w : Fin 5) (q : PosShare TreeShare) (f : S512x512.Idx → Elt F .bf16) (r : Rect S512x512) (hr : ∀ a, r.stride a = 1) (hs : r.set = win c w) :
    (rP c w q f : sProp 𝕄) = ((rM.slice r hr).view.loc (c : Thread nD τ) ↦[(rM.slice r hr).view.set]{q} f) := by
  have h : (rM.slice r hr).view.set = win c w := (View.set_slice_whole cc0_scratch1 r).trans hs
  rw [h]; rfl
omit [FloatOps F] in
/-- The elements of a window of the `z` partner's buffer, by its view. -/
theorem zP_view (c : Dev nD) (w : Fin 5) (q : PosShare TreeShare) (f : S512x512.Idx → Elt F .bf16) (r : Rect S512x512) (hr : ∀ a, r.stride a = 1) (hs : r.set = win c w) :
    (zP c w q f : sProp 𝕄) = ((zM.slice r hr).view.loc (c : Thread nD τ) ↦[(zM.slice r hr).view.set]{q} f) := by
  have h : (zM.slice r hr).view.set = win c w := (View.set_slice_whole cc0_scratch2 r).trans hs
  rw [h]; rfl

/-- A copy of window `w` to the `x` partner `n`: it lends half a share of the window, takes the partner's window, pays the
    landing's debt, and leaves the credit of its departure. -/
theorem send_x (c n : Dev nD) (hn : n = xp c) (w : Fin 5) (kS kR : Fin 11) (hS0 : kS ≠ 0) (hR0 : kR ≠ 0) {qs qr : DmaSem sig} (hqs : csem kS = .dma qs) (hqr : csem kR = .dma qr)
    {r : Rect S512x512} {hr : ∀ a, r.stride a = 1} (hs : r.set = win c w) (hk : amt kR = amt kS) (hN : (rM.slice r hr).view.amount (.dma qr) = amt kS)
    (h₁ : pay (F := F) m ρ c kS false = sP c w hl (XS m ρ c)) (h₂ : pay (F := F) m ρ (xp c) kR false = rP (xp c) w fullShare (XS m ρ (xp (xp c))))
    {hsc : (rM.slice r hr : Memref sig (Dev.tc n : Thread nD τ).2.kind _ _ _).view.ref.isScScratch = false}
    {hsrc : (sM.slice r hr).view.WordExact} {hdst : (rM.slice r hr : Memref sig (Dev.tc n : Thread nD τ).2.kind _ _ _).view.WordExact}
    {hsem : DmaTarget.Typed .vmem (.dma qr) (.remote (Dev.tc n : Thread nD τ) (rM.slice r hr : Memref sig (Dev.tc n : Thread nD τ).2.kind _ _ _) (.dma qs) hsc)}
    {α : Type} {Q : α → sProp 𝕄} {k : PUnit → Prog (TpuEff nD τ sig (Elt F) Λ₀ .tc) α} (κ₁ κ₂ : ℕ)
    (fd : S512x512.Idx → Elt F .bf16) (O : CellTallies nD τ sig Unit) {O' : CellTallies nD τ sig Unit} (hO : O' = O + tallyAt (kcell (xp c, kR)) () (amt kR)) (W : Waits sig Unit) :
    iprop(cellInv ER (Rd m ρ) κ₁ (kcell (c, kS)) ∗ cellInv ER (Rd m ρ) κ₂ (kcell (xp c, kR))
        ∗ sP c w hl (XS m ρ c) ∗ rP (xp c) w fullShare fd
        ∗ owes (c : Thread nD τ) O' W
        ∗ dutyTok ER (kcell (c, kS)) 0 false ∗ reached ER (kcell (c, kS)) 0
        ∗ dutyTok ER (kcell (xp c, kR)) 0 false ∗ reached ER (kcell (xp c, kR)) 0)
      ⊢ iprop(((cred (tallyAt (kcell (c, kS)) () (amt kS)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM.slice r hr) (.remote (Dev.tc n : Thread nD τ) (rM.slice r hr) (.dma qs) hsc) (.dma qr) hsrc hdst hsem) k) Q) := by
  subst hn
  have hs' : r.set = win (xp c) w := by rw [hs]; unfold win; rw [lo_xp]
  have d₁ := mem_duties (F := F) m ρ c kS hS0
  have d₂ := mem_duties (F := F) m ρ (xp c) kR hR0
  have a₁ := amount_eq (F := F) m ρ c kS false
  have a₂ := amount_eq (F := F) m ρ (xp c) kR false
  have p₁ := (payload_eq (F := F) m ρ c kS false).trans h₁
  have p₂ := (payload_eq (F := F) m ρ (xp c) kR false).trans h₂
  rw [sP_view c w hl _ r hr hs] at p₁ ⊢
  rw [rP_view (xp c) w fullShare _ r hr hs'] at p₂ ⊢
  rw [kcell_of c hqs] at d₁ a₁ p₁ ⊢
  rw [kcell_of (xp c) hqr] at d₂ a₂ p₂ hO ⊢
  rw [hk] at a₂ hO
  have hpp : (((rM.slice r hr : Memref sig (Dev.tc (xp c) : Thread nD τ).2.kind _ _ _).view.loc (xp c : Thread nD τ)) ↦[(rM.slice r hr : Memref sig (Dev.tc (xp c) : Thread nD τ).2.kind _ _ _).view.set]{fullShare}
      ((rM.slice r hr : Memref sig (Dev.tc (xp c) : Thread nD τ).2.kind _ _ _).view.write (Elt F) fd ((sM.slice r hr).view.read (Elt F) (XS m ρ c)) Finset.univ) : sProp 𝕄)
      ⊢ (Rd (F := F) m ρ).payload ((xp c : Thread nD τ), .dma qr) 0 false := by
    rw [p₂, xp_xp]
    exact Entails.of_eq (pointsTo_congr fun i hi => land_x r fd (XS m ρ c) i ((View.set_slice_whole cc0_scratch1 r) ▸ hi))
  exact Rounds.wp_send_pointsTo (defs := defs₀ (F := F)) (Q := Q) 𝒱₀ ER (Rd m ρ) (c : Thread nD τ) none (κ₁ := κ₁) (κ₂ := κ₂)
    (c' := (xp c : Thread nD τ)) (src := sM.slice r hr) (dst := rM.slice r hr) (hsc := hsc) (sS := .dma qs) (sem := .dma qr)
    (hsrc := hsrc) (hdst := hdst) (hsem := hsem) (k := k) (r₁ := 0) (r₂ := 0) (d₁ := false) (d₂ := false) (fd := fd) (fs := (XS m ρ c)) (q := hl)
    d₁ d₂ () () (amt kS) hN a₁ a₂ O hO (W := W) (Entails.of_eq p₁.symm) hpp (Es := Set.univ)

/-- A relay of window `w` to the `z` partner `n`, where it is window `w'`: it lends half a share of the window, takes the
    partner's window, pays the landing's debt, and leaves the credit of its departure. -/
theorem send_z (c n : Dev nD) (hn : n = zp c) (w w' : Fin 5) (kS kR : Fin 11) (hS0 : kS ≠ 0) (hR0 : kR ≠ 0) {qs qr : DmaSem sig} (hqs : csem kS = .dma qs) (hqr : csem kR = .dma qr)
    {r : Rect S512x512} {hr : ∀ a, r.stride a = 1} (hs : r.set = win c w) (hs' : r.set = win (zp c) w') (hk : amt kR = amt kS) (hN : (zM.slice r hr).view.amount (.dma qr) = amt kS)
    (h₁ : pay (F := F) m ρ c kS false = rP c w hl (XS m ρ (xp c))) (h₂ : pay (F := F) m ρ (zp c) kR false = zP (zp c) w' fullShare (XS m ρ (xp (zp (zp c)))))
    {hsc : (zM.slice r hr : Memref sig (Dev.tc n : Thread nD τ).2.kind _ _ _).view.ref.isScScratch = false}
    {hsrc : (rM.slice r hr).view.WordExact} {hdst : (zM.slice r hr : Memref sig (Dev.tc n : Thread nD τ).2.kind _ _ _).view.WordExact}
    {hsem : DmaTarget.Typed .vmem (.dma qr) (.remote (Dev.tc n : Thread nD τ) (zM.slice r hr : Memref sig (Dev.tc n : Thread nD τ).2.kind _ _ _) (.dma qs) hsc)}
    {α : Type} {Q : α → sProp 𝕄} {k : PUnit → Prog (TpuEff nD τ sig (Elt F) Λ₀ .tc) α} (κ₁ κ₂ : ℕ)
    (fd : S512x512.Idx → Elt F .bf16) (O : CellTallies nD τ sig Unit) {O' : CellTallies nD τ sig Unit} (hO : O' = O + tallyAt (kcell (zp c, kR)) () (amt kR)) (W : Waits sig Unit) :
    iprop(cellInv ER (Rd m ρ) κ₁ (kcell (c, kS)) ∗ cellInv ER (Rd m ρ) κ₂ (kcell (zp c, kR))
        ∗ rP c w hl (XS m ρ (xp c)) ∗ zP (zp c) w' fullShare fd
        ∗ owes (c : Thread nD τ) O' W
        ∗ dutyTok ER (kcell (c, kS)) 0 false ∗ reached ER (kcell (c, kS)) 0
        ∗ dutyTok ER (kcell (zp c, kR)) 0 false ∗ reached ER (kcell (zp c, kR)) 0)
      ⊢ iprop(((cred (tallyAt (kcell (c, kS)) () (amt kS)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rM.slice r hr) (.remote (Dev.tc n : Thread nD τ) (zM.slice r hr) (.dma qs) hsc) (.dma qr) hsrc hdst hsem) k) Q) := by
  subst hn
  have d₁ := mem_duties (F := F) m ρ c kS hS0
  have d₂ := mem_duties (F := F) m ρ (zp c) kR hR0
  have a₁ := amount_eq (F := F) m ρ c kS false
  have a₂ := amount_eq (F := F) m ρ (zp c) kR false
  have p₁ := (payload_eq (F := F) m ρ c kS false).trans h₁
  have p₂ := (payload_eq (F := F) m ρ (zp c) kR false).trans h₂
  rw [rP_view c w hl _ r hr hs] at p₁ ⊢
  rw [zP_view (zp c) w' fullShare _ r hr hs'] at p₂ ⊢
  rw [kcell_of c hqs] at d₁ a₁ p₁ ⊢
  rw [kcell_of (zp c) hqr] at d₂ a₂ p₂ hO ⊢
  rw [hk] at a₂ hO
  have hpp : (((zM.slice r hr : Memref sig (Dev.tc (zp c) : Thread nD τ).2.kind _ _ _).view.loc (zp c : Thread nD τ)) ↦[(zM.slice r hr : Memref sig (Dev.tc (zp c) : Thread nD τ).2.kind _ _ _).view.set]{fullShare}
      ((zM.slice r hr : Memref sig (Dev.tc (zp c) : Thread nD τ).2.kind _ _ _).view.write (Elt F) fd ((rM.slice r hr).view.read (Elt F) (XS m ρ (xp c))) Finset.univ) : sProp 𝕄)
      ⊢ (Rd (F := F) m ρ).payload ((zp c : Thread nD τ), .dma qr) 0 false := by
    rw [p₂, zp_zp]
    exact Entails.of_eq (pointsTo_congr fun i hi => land_z r fd (XS m ρ (xp c)) i ((View.set_slice_whole cc0_scratch2 r) ▸ hi))
  exact Rounds.wp_send_pointsTo (defs := defs₀ (F := F)) (Q := Q) 𝒱₀ ER (Rd m ρ) (c : Thread nD τ) none (κ₁ := κ₁) (κ₂ := κ₂)
    (c' := (zp c : Thread nD τ)) (src := rM.slice r hr) (dst := zM.slice r hr) (hsc := hsc) (sS := .dma qs) (sem := .dma qr)
    (hsrc := hsrc) (hdst := hdst) (hsem := hsem) (k := k) (r₁ := 0) (r₂ := 0) (d₁ := false) (d₂ := false) (fd := fd) (fs := (XS m ρ (xp c))) (q := hl)
    d₁ d₂ () () (amt kS) hN a₁ a₂ O hO (W := W) (Entails.of_eq p₁.symm) hpp (Es := Set.univ)

/-- A wait for the one payment of a cell: what the payment hands over comes back, and the cell closes with its counter at
    zero. -/
theorem wait_cell (c : Dev nD) (k : Fin 11) (hk : k ≠ 0) {q : DmaSem sig} (hq : csem k = .dma q) (κ : ℕ)
    {sp sp' : Space} {s s' : Shape} {e e' : EltTy} {src : Memref sig .tc sp s e} {dst : Memref sig .tc sp' s' e'} {hsrc : src.view.WordExact} {hdst : dst.view.WordExact}
    (hN : dst.view.dmaCredit = amt k)
    {α : Type} {Q : α → sProp 𝕄} {kt : PUnit → Prog (TpuEff nD τ sig (Elt F) Λ₀ .tc) α}
    (O : CellTallies nD τ sig Unit) (hmw : (levAts L lv : sProp 𝕄) ⊢ MayWait (c : Thread nD τ) (csem k) () O) (W : Waits sig Unit) :
    iprop(cellInv ER (Rd m ρ) κ (kcell (c, k)) ∗ cred (tallyAt (kcell (c, k)) () (amt k)) ∗ owes (c : Thread nD τ) O W ∗ levAts L lv
        ∗ atPos ER (kcell (c, k)) 0 ∅ 0)
      ⊢ iprop(((owes (c : Thread nD τ) O (insert (csem k, ()) W) ∗ semVal (kcell (c, k)) 0 ∗ pay m ρ c k false)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  have hx := expect_eq (F := F) m ρ c k hk
  have hp := rest_eq (F := F) m ρ c k hk
  have hl := duties_later (F := F) m ρ (kcell (c, k))
  rw [kcell_of c hq] at hx hp hl ⊢
  rw [hq] at hmw ⊢
  iintro ⟨#HI, Hc, HO, #Hlev, Hat⟩ Hk
  iapply (Rounds.wp_wait_rest_token 𝒱₀ ER (Rd m ρ) (c : Thread nD τ) none (κ := κ)
      (wpE_waitDma2_eq 𝒱₀ (c : Thread nD τ) none Set.univ) (Set.mem_univ _) () (O := O) (W := W) (R := 0) (m := 0) (T := ∅)
      (by rw [hx, hN, Nat.zero_add])) $$ [Hc HO Hat]
  · isplitr; · iexact HI
    isplitl [Hc]; · rw [hN]; iexact Hc
    isplitl [HO]; · iexact HO
    isplitr; · iapply hmw; iexact Hlev
    iexact Hat
  iintro ⟨HO, Hat, -, Hpay⟩
  ihave Hp := (Entails.of_eq hp) $$ Hpay
  imod (Rounds.cell_close ER (Rd m ρ) (Set.mem_univ κ) (fun h => h) (R := 0 + 1) hl) $$ [Hat] with Hz
  · isplitr; · iexact HI
    iexact Hat
  iapply Hk
  isplitl [HO]; · iexact HO
  isplitl [Hz]; · iexact Hz
  iexact Hp

/-- A load of a window of the sending buffer. -/
theorem ld_s (c : Dev nD) (w : Fin 5) (q : PosShare TreeShare) (f : S512x512.Idx → Elt F .bf16) {r : Rect S512x512} (hs : r.set = win c w) {hl : sM.view.LoadsAt r}
    {α : Type} {Q : α → sProp 𝕄} {k : (r.shape.Idx → Elt F .bf16) → Prog (TpuEff nD τ sig (Elt F) Λ₀ .tc) α} :
    sP c w q f ⊢ iprop((sP c w q f -∗ wp frame (wpE (defs₀ (F := F)) 𝒱₀ (c : Thread nD τ) none) Set.univ (k ((sM.access r).read (Elt F) f)) Q)
      -∗ wp frame (wpE (defs₀ (F := F)) 𝒱₀ (c : Thread nD τ) none) Set.univ (.op (.load sM r hl) k) Q) := by
  unfold sP
  exact wp_load_rect 𝒱₀ (c : Thread nD τ) none Set.univ (m := sM) (r := r) (S := win c w) (f := f) (by rw [View.set_slice_whole, hs])
/-- A load of a window of the `x` partner's buffer. -/
theorem ld_r (c : Dev nD) (w : Fin 5) (q : PosShare TreeShare) (f : S512x512.Idx → Elt F .bf16) {r : Rect S512x512} (hs : r.set = win c w) {hl : rM.view.LoadsAt r}
    {α : Type} {Q : α → sProp 𝕄} {k : (r.shape.Idx → Elt F .bf16) → Prog (TpuEff nD τ sig (Elt F) Λ₀ .tc) α} :
    rP c w q f ⊢ iprop((rP c w q f -∗ wp frame (wpE (defs₀ (F := F)) 𝒱₀ (c : Thread nD τ) none) Set.univ (k ((rM.access r).read (Elt F) f)) Q)
      -∗ wp frame (wpE (defs₀ (F := F)) 𝒱₀ (c : Thread nD τ) none) Set.univ (.op (.load rM r hl) k) Q) := by
  unfold rP
  exact wp_load_rect 𝒱₀ (c : Thread nD τ) none Set.univ (m := rM) (r := r) (S := win c w) (f := f) (by rw [View.set_slice_whole, hs])
/-- A load of a window of the `z` partner's buffer. -/
theorem ld_z (c : Dev nD) (w : Fin 5) (q : PosShare TreeShare) (f : S512x512.Idx → Elt F .bf16) {r : Rect S512x512} (hs : r.set = win c w) {hl : zM.view.LoadsAt r}
    {α : Type} {Q : α → sProp 𝕄} {k : (r.shape.Idx → Elt F .bf16) → Prog (TpuEff nD τ sig (Elt F) Λ₀ .tc) α} :
    zP c w q f ⊢ iprop((zP c w q f -∗ wp frame (wpE (defs₀ (F := F)) 𝒱₀ (c : Thread nD τ) none) Set.univ (k ((zM.access r).read (Elt F) f)) Q)
      -∗ wp frame (wpE (defs₀ (F := F)) 𝒱₀ (c : Thread nD τ) none) Set.univ (.op (.load zM r hl) k) Q) := by
  unfold zP
  exact wp_load_rect 𝒱₀ (c : Thread nD τ) none Set.univ (m := zM) (r := r) (S := win c w) (f := f) (by rw [View.set_slice_whole, hs])

/-- The result's buffer on device `c`, whole, holding `f`. -/
def oP (c : Dev nD) (f : S512x512.Idx → Elt F .bf16) : sProp 𝕄 := ((c : Thread nD τ).loc cc0_stg1_0) ↦{fullShare} (f : Buf (Elt F) ((c : Thread nD τ).loc cc0_stg1_0))

/-- A load from the result's buffer (its value is not used). -/
theorem ld_o (c : Dev nD) (f : S512x512.Idx → Elt F .bf16) {r : Rect S512x512} {hl : oM.view.LoadsAt r}
    {α : Type} {Q : α → sProp 𝕄} {k : (r.shape.Idx → Elt F .bf16) → Prog (TpuEff nD τ sig (Elt F) Λ₀ .tc) α} :
    oP c f ⊢ iprop((oP c f -∗ wp frame (wpE (defs₀ (F := F)) 𝒱₀ (c : Thread nD τ) none) Set.univ (k ((oM.access r).read (Elt F) f)) Q)
      -∗ wp frame (wpE (defs₀ (F := F)) 𝒱₀ (c : Thread nD τ) none) Set.univ (.op (.load oM r hl) k) Q) := by
  unfold oP
  exact wp_load_rect 𝒱₀ (c : Thread nD τ) none Set.univ (m := oM) (r := r) (S := Finset.univ) (f := f) (Finset.subset_univ _)

/-- A store into the result's buffer of the sum of a window of the sending buffer and of a buffer `A`, `B` read there. -/
theorem st_o (c : Dev nD) (f A B : S512x512.Idx → Elt F .bf16) (w : Fin 5) {r : Rect S512x512} (hs : r.set = win c w) {v : r.shape.Idx → Elt F .bf16}
    (hv : v = addf (F := F) (φ := .bf16) ((sM.access r).read (Elt F) A) ((rM.access r).read (Elt F) B))
    {hx : (oM.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    oP c f ⊢ iprop((oP c ((win c w).piecewise (sum2 A B) f) -∗ wp frame (wpE (defs₀ (F := F)) 𝒱₀ (c : Thread nD τ) none) Set.univ (k ⟨⟩) Q)
      -∗ wp frame (wpE (defs₀ (F := F)) 𝒱₀ (c : Thread nD τ) none) Set.univ (.op (.store oM r v Finset.univ hx hm) k) Q) := by
  rw [← hs, ← store_x r f A B, ← hv]
  unfold oP
  exact wp_store 𝒱₀ (c : Thread nD τ) none Set.univ (m := oM) (r := r) (w := v) (Mk := Finset.univ) (S := Finset.univ) (f := f) (Finset.subset_univ _)

end Cert.KProof

end
-- ==== Proof.Body.lean ====
/-
The run of the kernel's body on one device: from its ghost state, its credits and its buffers, through the barrier, the
three copies along `x`, the two relays along `z`, the five sums and the waits for the departures, to the result in the
result's buffer and every cell closed.
-/
module

public import proofs.«01_k».proof.Proof.Steps
public import proofs.«01_k».proof.Proof.Gen.KernelIdeal.Skeleton
public import proofs.«01_k».proof.Proof.Gen.KernelIdeal.Launch

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The invariant of every cell of every device and that every cell has reached round 0: shared by all devices. -/
def records (K : Dev nD × Fin 11 → ℕ) : sProp 𝕄 :=
  iprop((bigSep Finset.univ fun ck : Dev nD × Fin 11 => cellInv ER (Rd m ρ) (K ck) (kcell ck))
    ∗ bigSep Finset.univ fun ck : Dev nD × Fin 11 => reached ER (kcell ck) 0)

instance records_persistent (K : Dev nD × Fin 11 → ℕ) : BI.Persistent (records m ρ K) := by unfold records; infer_instance

/-- The invariant of one cell, from the shared record. -/
theorem inv_at (K : Dev nD × Fin 11 → ℕ) (ck : Dev nD × Fin 11) : records m ρ K ⊢ cellInv ER (Rd m ρ) (K ck) (kcell ck) := by
  unfold records
  iintro ⟨#HI, -⟩
  iapply (show (bigSep Finset.univ fun ck : Dev nD × Fin 11 => (cellInv ER (Rd m ρ) (K ck) (kcell ck) : sProp 𝕄)) ⊢ cellInv ER (Rd m ρ) (K ck) (kcell ck)
    from bigSep_elim (Finset.mem_univ ck))
  iexact HI
/-- That one cell has reached round 0, from the shared record. -/
theorem reached_at (K : Dev nD × Fin 11 → ℕ) (ck : Dev nD × Fin 11) : records m ρ K ⊢ reached ER (kcell ck) 0 := by
  unfold records
  iintro ⟨-, #HR⟩
  iapply (show (bigSep Finset.univ fun ck : Dev nD × Fin 11 => (reached ER (kcell ck) 0 : sProp 𝕄)) ⊢ reached ER (kcell ck) 0
    from bigSep_elim (Finset.mem_univ ck))
  iexact HR

omit [FloatOps F] in
/-- A family over the eleven cells, written out. -/
theorem bigSep_fin11 (Φ : Fin 11 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- The tokens of the payments that device `c` makes: a unit on each partner's barrier, its own five departures, three
    landings at its `x` partner and two at its `z` partner. -/
def payToks (c : Dev nD) : sProp 𝕄 :=
  iprop(dutyTok ER (kcell (xp c, 0)) 0 false ∗ dutyTok ER (kcell (zp c, 0)) 0 true
    ∗ (dutyTok ER (kcell (c, 1)) 0 false ∗ dutyTok ER (kcell (c, 2)) 0 false ∗ dutyTok ER (kcell (c, 3)) 0 false)
    ∗ (dutyTok ER (kcell (xp c, 4)) 0 false ∗ dutyTok ER (kcell (xp c, 5)) 0 false ∗ dutyTok ER (kcell (xp c, 6)) 0 false)
    ∗ (dutyTok ER (kcell (c, 7)) 0 false ∗ dutyTok ER (kcell (c, 8)) 0 false)
    ∗ (dutyTok ER (kcell (zp c, 9)) 0 false ∗ dutyTok ER (kcell (zp c, 10)) 0 false))

/-- Device `c`'s ghost state under the names `K`: the shared record, its positions at its eleven cells, its tokens. -/
def ghost (K : Dev nD × Fin 11 → ℕ) (c : Dev nD) : sProp 𝕄 :=
  iprop(records m ρ K ∗ (bigSep Finset.univ fun k : Fin 11 => atPos ER (kcell (c, k)) 0 ∅ 0) ∗ payToks c)

/-- The credits device `c` gets at launch: for its barrier's two units and for the landings of its partners' copies. -/
def creds (c : Dev nD) : sProp 𝕄 :=
  iprop(cred (tallyAt (kcell (c, 0)) () 2) ∗ cred (tallyAt (kcell (c, 4)) () (amt 4)) ∗ cred (tallyAt (kcell (c, 5)) () (amt 5))
    ∗ cred (tallyAt (kcell (c, 6)) () (amt 6)) ∗ cred (tallyAt (kcell (c, 9)) () (amt 9)) ∗ cred (tallyAt (kcell (c, 10)) () (amt 10)))

/-- The three buffers of the kernel on device `c`, whole, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What device `c`'s body starts from, besides its buffers. -/
def start (c : Dev nD) : sProp 𝕄 := iprop((∃ K, ghost m ρ K c) ∗ creds c ∗ levAts L lv)

/-- Before the body. -/
def Φ₀ (c : Dev nD) : sProp 𝕄 := iprop(start m ρ c ∗ scr c)
/-- After the body: the buffers back, every counter of the device at zero. -/
def Φ₁ (c : Dev nD) : sProp 𝕄 := iprop(scr c ∗ bigSep Finset.univ fun k : Fin 11 => semVal (kcell (c, k)) 0)

theorem cfg0_N : cfg0.N = 1 := by decide
/-- The one point of the grid. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The pipeline's data: the operand's window holds the block, the result's window the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The steps, from the shared record -/

section Body

variable (K : Dev nD × Fin 11 → ℕ)

/-- Owing `O`, whatever has been waited for. -/
def ow (c : Dev nD) (O : CellTallies nD τ sig Unit) : sProp 𝕄 := iprop(∃ W : Waits sig Unit, owes (c : Thread nD τ) O W)

/-- A copy along `x`, from the shared record. -/
theorem go_x (c n : Dev nD) (hn : n = xp c) (w : Fin 5) (kS kR : Fin 11) (hS0 : kS ≠ 0) (hR0 : kR ≠ 0) {qs qr : DmaSem sig} (hqs : csem kS = .dma qs) (hqr : csem kR = .dma qr)
    {r : Rect S512x512} {hr : ∀ a, r.stride a = 1} (hs : r.set = win c w) (hk : amt kR = amt kS) (hN : (rM.slice r hr).view.amount (.dma qr) = amt kS)
    (h₁ : pay (F := F) m ρ c kS false = sP c w hl (XS m ρ c)) (h₂ : pay (F := F) m ρ (xp c) kR false = rP (xp c) w fullShare (XS m ρ (xp (xp c))))
    {hsc : (rM.slice r hr : Memref sig (Dev.tc n : Thread nD τ).2.kind _ _ _).view.ref.isScScratch = false}
    {hsrc : (sM.slice r hr).view.WordExact} {hdst : (rM.slice r hr : Memref sig (Dev.tc n : Thread nD τ).2.kind _ _ _).view.WordExact}
    {hsem : DmaTarget.Typed .vmem (.dma qr) (.remote (Dev.tc n : Thread nD τ) (rM.slice r hr : Memref sig (Dev.tc n : Thread nD τ).2.kind _ _ _) (.dma qs) hsc)}
    {α : Type} {Q : α → sProp 𝕄} {k : PUnit → Prog (TpuEff nD τ sig (Elt F) Λ₀ .tc) α}
    (O : CellTallies nD τ sig Unit) {O' : CellTallies nD τ sig Unit} (hO : O' = O + tallyAt (kcell (xp c, kR)) () (amt kR)) :
    iprop(records m ρ K ∗ sP c w hl (XS m ρ c) ∗ (∃ f, rP (F := F) (xp c) w fullShare f) ∗ ow c O'
        ∗ dutyTok ER (kcell (c, kS)) 0 false ∗ dutyTok ER (kcell (xp c, kR)) 0 false)
      ⊢ iprop(((cred (tallyAt (kcell (c, kS)) () (amt kS)) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM.slice r hr) (.remote (Dev.tc n : Thread nD τ) (rM.slice r hr) (.dma qs) hsc) (.dma qr) hsrc hdst hsem) k) Q) := by
  iintro ⟨#HR, Hs, ⟨%fd, Hd⟩, Ho, Ht₁, Ht₂⟩ Hk
  unfold ow
  icases Ho with ⟨%W, HO⟩
  iapply (send_x m ρ c n hn w kS kR hS0 hR0 hqs hqr hs hk hN h₁ h₂ (hsc := hsc) (hsrc := hsrc) (hdst := hdst) (hsem := hsem) (Q := Q) (k := k) (K (c, kS)) (K (xp c, kR)) fd O hO W) $$ [Hs Hd HO Ht₁ Ht₂]
  · isplitr; · iapply (inv_at m ρ K (c, kS)); iexact HR
    isplitr; · iapply (inv_at m ρ K (xp c, kR)); iexact HR
    isplitl [Hs]; · iexact Hs
    isplitl [Hd]; · iexact Hd
    isplitl [HO]; · iexact HO
    isplitl [Ht₁]; · iexact Ht₁
    isplitr; · iapply (reached_at m ρ K (c, kS)); iexact HR
    isplitl [Ht₂]; · iexact Ht₂
    iapply (reached_at m ρ K (xp c, kR)); iexact HR
  iintro ⟨Hc, HO⟩
  iapply Hk
  isplitl [Hc]; · iexact Hc
  iexists W; iexact HO

/-- A relay along `z`, from the shared record. -/
theorem go_z (c n : Dev nD) (hn : n = zp c) (w w' : Fin 5) (kS kR : Fin 11) (hS0 : kS ≠ 0) (hR0 : kR ≠ 0) {qs qr : DmaSem sig} (hqs : csem kS = .dma qs) (hqr : csem kR = .dma qr)
    {r : Rect S512x512} {hr : ∀ a, r.stride a = 1} (hs : r.set = win c w) (hs' : r.set = win (zp c) w') (hk : amt kR = amt kS) (hN : (zM.slice r hr).view.amount (.dma qr) = amt kS)
    (h₁ : pay (F := F) m ρ c kS false = rP c w hl (XS m ρ (xp c))) (h₂ : pay (F := F) m ρ (zp c) kR false = zP (zp c) w' fullShare (XS m ρ (xp (zp (zp c)))))
    {hsc : (zM.slice r hr : Memref sig (Dev.tc n : Thread nD τ).2.kind _ _ _).view.ref.isScScratch = false}
    {hsrc : (rM.slice r hr).view.WordExact} {hdst : (zM.slice r hr : Memref sig (Dev.tc n : Thread nD τ).2.kind _ _ _).view.WordExact}
    {hsem : DmaTarget.Typed .vmem (.dma qr) (.remote (Dev.tc n : Thread nD τ) (zM.slice r hr : Memref sig (Dev.tc n : Thread nD τ).2.kind _ _ _) (.dma qs) hsc)}
    {α : Type} {Q : α → sProp 𝕄} {k : PUnit → Prog (TpuEff nD τ sig (Elt F) Λ₀ .tc) α}
    (O : CellTallies nD τ sig Unit) {O' : CellTallies nD τ sig Unit} (hO : O' = O + tallyAt (kcell (zp c, kR)) () (amt kR)) :
    iprop(records m ρ K ∗ rP c w hl (XS m ρ (xp c)) ∗ (∃ f, zP (F := F) (zp c) w' fullShare f) ∗ ow c O'
        ∗ dutyTok ER (kcell (c, kS)) 0 false ∗ dutyTok ER (kcell (zp c, kR)) 0 false)
      ⊢ iprop(((cred (tallyAt (kcell (c, kS)) () (amt kS)) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rM.slice r hr) (.remote (Dev.tc n : Thread nD τ) (zM.slice r hr) (.dma qs) hsc) (.dma qr) hsrc hdst hsem) k) Q) := by
  iintro ⟨#HR, Hs, ⟨%fd, Hd⟩, Ho, Ht₁, Ht₂⟩ Hk
  unfold ow
  icases Ho with ⟨%W, HO⟩
  iapply (send_z m ρ c n hn w w' kS kR hS0 hR0 hqs hqr hs hs' hk hN h₁ h₂ (hsc := hsc) (hsrc := hsrc) (hdst := hdst) (hsem := hsem) (Q := Q) (k := k) (K (c, kS)) (K (zp c, kR)) fd O hO W) $$ [Hs Hd HO Ht₁ Ht₂]
  · isplitr; · iapply (inv_at m ρ K (c, kS)); iexact HR
    isplitr; · iapply (inv_at m ρ K (zp c, kR)); iexact HR
    isplitl [Hs]; · iexact Hs
    isplitl [Hd]; · iexact Hd
    isplitl [HO]; · iexact HO
    isplitl [Ht₁]; · iexact Ht₁
    isplitr; · iapply (reached_at m ρ K (c, kS)); iexact HR
    isplitl [Ht₂]; · iexact Ht₂
    iapply (reached_at m ρ K (zp c, kR)); iexact HR
  iintro ⟨Hc, HO⟩
  iapply Hk
  isplitl [Hc]; · iexact Hc
  iexists W; iexact HO

/-- A wait for the one payment of a cell, from the shared record. -/
theorem go_wait (c : Dev nD) (k : Fin 11) (hk : k ≠ 0) {q : DmaSem sig} (hq : csem k = .dma q)
    {sp sp' : Space} {s s' : Shape} {e e' : EltTy} {src : Memref sig .tc sp s e} {dst : Memref sig .tc sp' s' e'} {hsrc : src.view.WordExact} {hdst : dst.view.WordExact}
    (hN : dst.view.dmaCredit = amt k) {α : Type} {Q : α → sProp 𝕄} {kt : PUnit → Prog (TpuEff nD τ sig (Elt F) Λ₀ .tc) α}
    (O : CellTallies nD τ sig Unit) (hmw : (levAts L lv : sProp 𝕄) ⊢ MayWait (c : Thread nD τ) (csem k) () O) (P : sProp 𝕄) (hP : pay m ρ c k false = P) :
    iprop(records m ρ K ∗ levAts L lv ∗ cred (tallyAt (kcell (c, k)) () (amt k)) ∗ ow c O ∗ atPos ER (kcell (c, k)) 0 ∅ 0)
      ⊢ iprop(((ow c O ∗ semVal (kcell (c, k)) 0 ∗ P) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  subst hP
  iintro ⟨#HR, #Hlev, Hc, Ho, Hat⟩ Hk
  unfold ow
  icases Ho with ⟨%W, HO⟩
  iapply (wait_cell m ρ c k hk hq (K (c, k)) (hsrc := hsrc) (hdst := hdst) hN (Q := Q) (kt := kt) O hmw W) $$ [Hc HO Hat]
  · isplitr; · iapply (inv_at m ρ K (c, k)); iexact HR
    isplitl [Hc]; · iexact Hc
    isplitl [HO]; · iexact HO
    isplitr; · iexact Hlev
    iexact Hat
  iintro ⟨HO, Hz, Hp⟩
  iapply Hk
  isplitl [HO]; · iexists _; iexact HO
  isplitl [Hz]; · iexact Hz
  iexact Hp

omit [FloatOps F] in
/-- A device that owes nothing may wait on any cell. -/
theorem mayWait_zero (c : Dev nD) (sm : SemLoc sig) : (levAts L lv : sProp 𝕄) ⊢ MayWait (c : Thread nD τ) sm () 0 := by
  rw [MayWait_zero]; iintro -; iempintro

omit [FloatOps F] in
/-- A cell of a device may be waited on at its level or above, owing only what lies higher. -/
theorem mayWait_at (c : Dev nD) (k : Fin 11) (n : ℕ) (hn : lvK k ≤ n) (O : CellTallies nD τ sig Unit) (hO : Above n O) :
    (levAts L lv : sProp 𝕄) ⊢ MayWait (c : Thread nD τ) (csem k) () O :=
  mayWait c (csem k) n (by have := lv_kcell c k (); rw [this]; exact hn) O hO

omit [FloatOps F] in
theorem hz : (![0, 0] : Fin 2 → Nat) = fun _ => 0 := funext fun a => by fin_cases a <;> rfl

abbrev r0 : Rect S512x512 := Rect.unit (s := S512x512) ![0, 0] S512x512.size inb_S512x512_S512x512_0_0

omit [FloatOps F] in
theorem read_x (f : (cc0_stg0_0 : Ref sig .tc).ty.Contents (Elt F)) : (xM : Memref sig .tc .vmem S512x512 .bf16).view.readAt (Elt F) r0.toLoadRect f = f :=
  Memref.readAt_unit_zero (Elt F) cc0_stg0_0 hz _ f
omit [FloatOps F] in
theorem write_s (f w : (cc0_scratch0 : Ref sig .tc).ty.Contents (Elt F)) :
    ((sM : Memref sig .tc .vmem S512x512 .bf16).access r0 : View sig .tc _ _ _).write (Elt F) f w Finset.univ = w :=
  Memref.write_access_unit_zero_univ (Elt F) cc0_scratch0 hz _ f w

omit [FloatOps F] in
/-- The credit of a copy into a slice of a whole buffer depends on the slice's shape alone. -/
theorem credit_slice (b : Ref sig .tc) (r : Rect b.ty.shape) (hr : ∀ a, r.stride a = 1) (s : Shape) (hs : r.shape = s) :
    ((Memref.whole b).slice r hr).view.dmaCredit = b.dmaCredit s b.ty.elt := by subst hs; rfl

/-- What the signal to the `x` partner's barrier hands over: three windows of the device's own. -/
theorem pay_barX (c : Dev nD) (f : S512x512.Idx → Elt F .bf16) :
    iprop(rP c 0 fullShare f ∗ rP c 1 fullShare f ∗ rP c 2 fullShare f) ⊢ (Rd (F := F) m ρ).payload (kcell (xp c, 0)) 0 false := by
  rw [payload_eq]
  show _ ⊢ barX (xp c)
  unfold barX; rw [xp_xp]
  iintro ⟨H0, H1, H2⟩
  isplitl [H0]; · iexists f; iexact H0
  isplitl [H1]; · iexists f; iexact H1
  iexists f; iexact H2
/-- What the signal to the `z` partner's barrier hands over: two windows of the device's own. -/
theorem pay_barZ (c : Dev nD) (f : S512x512.Idx → Elt F .bf16) :
    iprop(zP c 3 fullShare f ∗ zP c 4 fullShare f) ⊢ (Rd (F := F) m ρ).payload (kcell (zp c, 0)) 0 true := by
  rw [payload_eq]
  show _ ⊢ barZ (zp c)
  unfold barZ; rw [zp_zp]
  iintro ⟨H3, H4⟩
  isplitl [H3]; · iexists f; iexact H3
  iexists f; iexact H4

/-- Buffer `b` of device `c`, whole, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ creds c ∗ levAts L lv ∗ scr c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 4000000 in
/-- The body, run from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost payToks creds scr
  rw [bigSep_fin11]
  iintro ⟨⟨⟨⟨#HR, ⟨Ha0, Ha1, Ha2, Ha3, Ha4, Ha5, Ha6, Ha7, Ha8, Ha9, Ha10⟩, HtBX, HtBZ, ⟨Ht1, Ht2, Ht3⟩, ⟨Ht4, Ht5, Ht6⟩, ⟨Ht7, Ht8⟩, ⟨Ht9, Ht10⟩⟩,
      ⟨Hc0, Hc4, Hc5, Hc6, Hc9, Hc10⟩, #Hlev, ⟨%fs, Hs⟩, ⟨%fr, Hr⟩, ⟨%fz, Hz⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  -- the buffers that the partners write into, window by window
  ihave Hr := (Entails.of_eq (r_split (F := F) c fr)) $$ Hr
  icases Hr with ⟨Hr0, Hr1, Hr2, Hr3, Hr4⟩
  ihave Hz := (Entails.of_eq (z_split (F := F) c fz)) $$ Hz
  icases Hz with ⟨Hz0, Hz1, Hz2, Hz3, Hz4⟩
  -- the signal to the `x` partner's barrier hands it the three windows it will write into
  iapply (Rounds.wp_signal 𝒱₀ ER (Rd m ρ) (c : Thread nD τ) none (dst := (xp c : Thread nD τ)) (κ := K (xp c, 0))
      (d := false) (mem_bar m ρ (xp c) false) ((amount_eq m ρ (xp c) 0 false).trans (by decide)) () (O₁ c) rfl)
    $$ [HO HtBX Hr0 Hr1 Hr2]
  · isplitr; · iapply (inv_at m ρ K (xp c, 0)); iexact HR
    isplitl [HO]; · iexact HO
    isplitl [HtBX]; · iexact HtBX
    isplitl [Hr0 Hr1 Hr2]
    · iapply (pay_barX m ρ c fr)
      isplitl [Hr0]; · iexact Hr0
      isplitl [Hr1]; · iexact Hr1
      iexact Hr2
    iapply (reached_at m ρ K (xp c, 0)); iexact HR
  iintro HO
  -- the signal to the `z` partner's barrier hands it the two windows it will write into
  iapply (Rounds.wp_signal 𝒱₀ ER (Rd m ρ) (c : Thread nD τ) none (dst := (zp c : Thread nD τ)) (κ := K (zp c, 0))
      (d := true) (mem_bar m ρ (zp c) true) ((amount_eq m ρ (zp c) 0 true).trans (by decide)) () (O₂ c) rfl)
    $$ [HO HtBZ Hz3 Hz4]
  · isplitr; · iapply (inv_at m ρ K (zp c, 0)); iexact HR
    isplitl [HO]; · iexact HO
    isplitl [HtBZ]; · iexact HtBZ
    isplitl [Hz3 Hz4]
    · iapply (pay_barZ m ρ c fz)
      isplitl [Hz3]; · iexact Hz3
      iexact Hz4
    iapply (reached_at m ρ K (zp c, 0)); iexact HR
  iintro HO
  -- the block into the sending buffer
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := r0) (Mk := Finset.univ) (Finset.subset_univ _)) $$ Hs; iintro Hs
  rw [write_s]
  -- the wait on the barrier: both partners' windows
  iapply (Rounds.wp_wait_rest_token 𝒱₀ ER (Rd m ρ) (c : Thread nD τ) none (κ := K (c, 0))
      (wpE_semWait_eq 𝒱₀ (c : Thread nD τ) none Set.univ) (Set.mem_univ _) () (O := O₂ c) (W := W) (R := 0) (m := 0) (T := ∅)
      ((Nat.zero_add _).trans (expect_bar m ρ c).symm)) $$ [Hc0 HO Ha0]
  · isplitr; · iapply (inv_at m ρ K (c, 0)); iexact HR
    isplitl [Hc0]; · iexact Hc0
    isplitl [HO]; · iexact HO
    isplitr; · iapply (mayWait_at c 0 1 (by decide) (O₂ c) (above_O₂ c)); iexact Hlev
    iexact Ha0
  iintro ⟨HO, Ha0, -, Hpay⟩
  ihave Hp := (Entails.of_eq (rest_bar m ρ c)) $$ Hpay
  unfold barX barZ
  icases Hp with ⟨⟨Hd0, Hd1, Hd2⟩, Hd3, Hd4⟩
  imod (Rounds.cell_close ER (Rd m ρ) (Set.mem_univ (K (c, 0))) (fun h => h) (R := 0 + 1) (duties_later m ρ (kcell (c, 0)))) $$ [Ha0] with Hv0
  · isplitr; · iapply (inv_at m ρ K (c, 0)); iexact HR
    iexact Ha0
  ihave HO := (show (owes (c : Thread nD τ) (O₂ c) (insert (SemLoc.reg qB, ()) W) : sProp 𝕄) ⊢ ow c (O₂ c) from exists_intro (Φ := fun W : Waits sig Unit => (owes (c : Thread nD τ) (O₂ c) W : sProp 𝕄)) _) $$ HO
  -- the three copies along `x`
  ihave Hs := (Entails.of_eq (s_split (F := F) c (XS m ρ c))) $$ [Hs]
  · iexact Hs
  icases Hs with ⟨Hs0, Hs1, Hs2, Hs3, Hs4⟩
  ihave Hh := (s_half (F := F) c 0 (XS m ρ c)).1 $$ Hs0
  icases Hh with ⟨Hl0, Hs0⟩
  ihave Hh := (s_half (F := F) c 1 (XS m ρ c)).1 $$ Hs1
  icases Hh with ⟨Hl1, Hs1⟩
  ihave Hh := (s_half (F := F) c 2 (XS m ρ c)).1 $$ Hs2
  icases Hh with ⟨Hl2, Hs2⟩
  iapply (go_x m ρ K c _ (dev3_eq c) 0 1 4 (by decide) (by decide) (by rfl) (by rfl) (rect_set (off1_0 c) _) (by rfl) (by exact credit_slice cc0_scratch1 _ _ S80x512 rfl) rfl rfl (O₃ c) rfl) $$ [Hl0 Hd0 HO Ht1 Ht4]
  · isplitr; · iexact HR
    isplitl [Hl0]; · iexact Hl0
    isplitl [Hd0]; · iexact Hd0
    isplitl [HO]; · iexact HO
    isplitl [Ht1]; · iexact Ht1
    iexact Ht4
  iintro ⟨Hc1, HO⟩
  iapply (go_x m ρ K c _ (dev4_eq c) 1 2 5 (by decide) (by decide) (by rfl) (by rfl) (rect_set (off1_1 c) _) (by rfl) (by exact credit_slice cc0_scratch1 _ _ S80x512 rfl) rfl rfl (O₄ c) rfl) $$ [Hl1 Hd1 HO Ht2 Ht5]
  · isplitr; · iexact HR
    isplitl [Hl1]; · iexact Hl1
    isplitl [Hd1]; · iexact Hd1
    isplitl [HO]; · iexact HO
    isplitl [Ht2]; · iexact Ht2
    iexact Ht5
  iintro ⟨Hc2, HO⟩
  iapply (go_x m ρ K c _ (dev5_eq c) 2 3 6 (by decide) (by decide) (by rfl) (by rfl) (rect_set rfl _) (by rfl) (by exact credit_slice cc0_scratch1 _ _ S192x512 rfl) rfl rfl (O₅ c) rfl) $$ [Hl2 Hd2 HO Ht3 Ht6]
  · isplitr; · iexact HR
    isplitl [Hl2]; · iexact Hl2
    isplitl [Hd2]; · iexact Hd2
    isplitl [HO]; · iexact HO
    isplitl [Ht3]; · iexact Ht3
    iexact Ht6
  iintro ⟨Hc3, HO⟩
  ihave Hout := (show (((c : Thread nD τ).loc cc0_stg1_0) ↦{fullShare} g1 : sProp 𝕄) ⊢ oP c g1 from BI.Entails.refl _) $$ Hout
  -- the first landing, its relay and its sum
  iapply (go_wait m ρ K c 4 (by decide) (by rfl) (by exact credit_slice cc0_scratch1 _ _ S80x512 rfl) (O₅ c) (mayWait_at c 4 2 (by decide) _ (above_O₅ c)) (rP c 0 fullShare (XS m ρ (xp c))) rfl) $$ [Hc4 HO Ha4]
  · isplitr; · iexact HR
    isplitr; · iexact Hlev
    isplitl [Hc4]; · iexact Hc4
    isplitl [HO]; · iexact HO
    iexact Ha4
  iintro ⟨HO, Hv4, Hr0⟩
  ihave Hh := (r_half (F := F) c 0 (XS m ρ (xp c))).1 $$ Hr0
  icases Hh with ⟨Hrl, Hr0⟩
  iapply (go_z m ρ K c _ (dev6_eq c) 0 3 7 9 (by decide) (by decide) (by rfl) (by rfl) (rect_set (off1_0 c) _) ((rect_set (off1_0 c) _).trans (by unfold win; rw [lo_zp_0]; rfl)) (by rfl) (by exact credit_slice cc0_scratch2 _ _ S80x512 rfl) rfl rfl (O₆ c) rfl) $$ [Hrl Hd3 HO Ht7 Ht9]
  · isplitr; · iexact HR
    isplitl [Hrl]; · iexact Hrl
    isplitl [Hd3]; · iexact Hd3
    isplitl [HO]; · iexact HO
    isplitl [Ht7]; · iexact Ht7
    iexact Ht9
  iintro ⟨Hc7, HO⟩
  iapply (ld_s c 0 hr (XS m ρ c) (rect_set (off2_0 c) _)) $$ Hs0; iintro Hs0
  iapply (ld_r c 0 hr (XS m ρ (xp c)) (rect_set (off2_0 c) _)) $$ Hr0; iintro Hr0
  iapply (ld_o c _) $$ Hout; iintro Hout
  iapply (st_o c _ (XS m ρ c) (XS m ρ (xp c)) 0 (rect_set (off2_0 c) _) (by rfl)) $$ Hout; iintro Hout
  -- the second
  iapply (go_wait m ρ K c 5 (by decide) (by rfl) (by exact credit_slice cc0_scratch1 _ _ S80x512 rfl) (O₆ c) (mayWait_at c 5 2 (by decide) _ (above_O₆ c)) (rP c 1 fullShare (XS m ρ (xp c))) rfl) $$ [Hc5 HO Ha5]
  · isplitr; · iexact HR
    isplitr; · iexact Hlev
    isplitl [Hc5]; · iexact Hc5
    isplitl [HO]; · iexact HO
    iexact Ha5
  iintro ⟨HO, Hv5, Hr1⟩
  ihave Hh := (r_half (F := F) c 1 (XS m ρ (xp c))).1 $$ Hr1
  icases Hh with ⟨Hrl, Hr1⟩
  iapply (go_z m ρ K c _ (dev7_eq c) 1 4 8 10 (by decide) (by decide) (by rfl) (by rfl) (rect_set (off1_1 c) _) ((rect_set (off1_1 c) _).trans (by unfold win; rw [lo_zp_1]; rfl)) (by rfl) (by exact credit_slice cc0_scratch2 _ _ S80x512 rfl) rfl rfl (0) (zero_add _).symm) $$ [Hrl Hd4 HO Ht8 Ht10]
  · isplitr; · iexact HR
    isplitl [Hrl]; · iexact Hrl
    isplitl [Hd4]; · iexact Hd4
    isplitl [HO]; · iexact HO
    isplitl [Ht8]; · iexact Ht8
    iexact Ht10
  iintro ⟨Hc8, HO⟩
  iapply (ld_s c 1 hr (XS m ρ c) (rect_set (off2_1 c) _)) $$ Hs1; iintro Hs1
  iapply (ld_r c 1 hr (XS m ρ (xp c)) (rect_set (off2_1 c) _)) $$ Hr1; iintro Hr1
  iapply (ld_o c _) $$ Hout; iintro Hout
  iapply (st_o c _ (XS m ρ c) (XS m ρ (xp c)) 1 (rect_set (off2_1 c) _) (by rfl)) $$ Hout; iintro Hout
  -- the third
  iapply (go_wait m ρ K c 6 (by decide) (by rfl) (by exact credit_slice cc0_scratch1 _ _ S192x512 rfl) (0) (mayWait_zero c _) (rP c 2 fullShare (XS m ρ (xp c))) rfl) $$ [Hc6 HO Ha6]
  · isplitr; · iexact HR
    isplitr; · iexact Hlev
    isplitl [Hc6]; · iexact Hc6
    isplitl [HO]; · iexact HO
    iexact Ha6
  iintro ⟨HO, Hv6, Hr2⟩
  iapply (ld_s c 2 hr (XS m ρ c) (rect_set rfl _)) $$ Hs2; iintro Hs2
  iapply (ld_r c 2 fullShare (XS m ρ (xp c)) (rect_set rfl _)) $$ Hr2; iintro Hr2
  iapply (ld_o c _) $$ Hout; iintro Hout
  iapply (st_o c _ (XS m ρ c) (XS m ρ (xp c)) 2 (rect_set rfl _) (by rfl)) $$ Hout; iintro Hout
  -- the two landings along `z` and their sums
  iapply (go_wait m ρ K c 9 (by decide) (by rfl) (by exact credit_slice cc0_scratch2 _ _ S80x512 rfl) (0) (mayWait_zero c _) (zP c 3 fullShare (XS m ρ (xp (zp c)))) rfl) $$ [Hc9 HO Ha9]
  · isplitr; · iexact HR
    isplitr; · iexact Hlev
    isplitl [Hc9]; · iexact Hc9
    isplitl [HO]; · iexact HO
    iexact Ha9
  iintro ⟨HO, Hv9, Hz3⟩
  iapply (ld_s c 3 fullShare (XS m ρ c) (rect_set (off3_0 c) _)) $$ Hs3; iintro Hs3
  iapply (ld_z c 3 fullShare (XS m ρ (xp (zp c))) (rect_set (off3_0 c) _)) $$ Hz3; iintro Hz3
  iapply (ld_o c _) $$ Hout; iintro Hout
  iapply (st_o c _ (XS m ρ c) (XS m ρ (xp (zp c))) 3 (rect_set (off3_0 c) _) (by rfl)) $$ Hout; iintro Hout
  iapply (go_wait m ρ K c 10 (by decide) (by rfl) (by exact credit_slice cc0_scratch2 _ _ S80x512 rfl) (0) (mayWait_zero c _) (zP c 4 fullShare (XS m ρ (xp (zp c)))) rfl) $$ [Hc10 HO Ha10]
  · isplitr; · iexact HR
    isplitr; · iexact Hlev
    isplitl [Hc10]; · iexact Hc10
    isplitl [HO]; · iexact HO
    iexact Ha10
  iintro ⟨HO, Hv10, Hz4⟩
  iapply (ld_s c 4 fullShare (XS m ρ c) (rect_set (off3_1 c) _)) $$ Hs4; iintro Hs4
  iapply (ld_z c 4 fullShare (XS m ρ (xp (zp c))) (rect_set (off3_1 c) _)) $$ Hz4; iintro Hz4
  iapply (ld_o c _) $$ Hout; iintro Hout
  iapply (st_o c _ (XS m ρ c) (XS m ρ (xp (zp c))) 4 (rect_set (off3_1 c) _) (by rfl)) $$ Hout; iintro Hout
  -- the departures
  iapply (go_wait m ρ K c 1 (by decide) (by rfl) (by exact credit_slice cc0_scratch0 _ _ S80x512 rfl) (0) (mayWait_zero c _) (sP c 0 hl (XS m ρ c)) rfl) $$ [Hc1 HO Ha1]
  · isplitr; · iexact HR
    isplitr; · iexact Hlev
    isplitl [Hc1]; · iexact Hc1
    isplitl [HO]; · iexact HO
    iexact Ha1
  iintro ⟨HO, Hv1, Hl0⟩
  iapply (go_wait m ρ K c 2 (by decide) (by rfl) (by exact credit_slice cc0_scratch0 _ _ S80x512 rfl) (0) (mayWait_zero c _) (sP c 1 hl (XS m ρ c)) rfl) $$ [Hc2 HO Ha2]
  · isplitr; · iexact HR
    isplitr; · iexact Hlev
    isplitl [Hc2]; · iexact Hc2
    isplitl [HO]; · iexact HO
    iexact Ha2
  iintro ⟨HO, Hv2, Hl1⟩
  iapply (go_wait m ρ K c 3 (by decide) (by rfl) (by exact credit_slice cc0_scratch0 _ _ S192x512 rfl) (0) (mayWait_zero c _) (sP c 2 hl (XS m ρ c)) rfl) $$ [Hc3 HO Ha3]
  · isplitr; · iexact HR
    isplitr; · iexact Hlev
    isplitl [Hc3]; · iexact Hc3
    isplitl [HO]; · iexact HO
    iexact Ha3
  iintro ⟨HO, Hv3, Hl2⟩
  iapply (go_wait m ρ K c 7 (by decide) (by rfl) (by exact credit_slice cc0_scratch1 _ _ S80x512 rfl) (0) (mayWait_zero c _) (rP c 0 hl (XS m ρ (xp c))) rfl) $$ [Hc7 HO Ha7]
  · isplitr; · iexact HR
    isplitr; · iexact Hlev
    isplitl [Hc7]; · iexact Hc7
    isplitl [HO]; · iexact HO
    iexact Ha7
  iintro ⟨HO, Hv7, Hrl0⟩
  iapply (go_wait m ρ K c 8 (by decide) (by rfl) (by exact credit_slice cc0_scratch1 _ _ S80x512 rfl) (0) (mayWait_zero c _) (rP c 1 hl (XS m ρ (xp c))) rfl) $$ [Hc8 HO Ha8]
  · isplitr; · iexact HR
    isplitr; · iexact Hlev
    isplitl [Hc8]; · iexact Hc8
    isplitl [HO]; · iexact HO
    iexact Ha8
  iintro ⟨HO, Hv8, Hrl1⟩
  rw [wp_ret]; imodintro
  iapply Hk
  ihave Hs0 := (s_half (F := F) c 0 (XS m ρ c)).2 $$ [Hl0 Hs0]
  · isplitl [Hl0] <;> iassumption
  ihave Hs1 := (s_half (F := F) c 1 (XS m ρ c)).2 $$ [Hl1 Hs1]
  · isplitl [Hl1] <;> iassumption
  ihave Hs2 := (s_half (F := F) c 2 (XS m ρ c)).2 $$ [Hl2 Hs2]
  · isplitl [Hl2] <;> iassumption
  ihave Hr0 := (r_half (F := F) c 0 (XS m ρ (xp c))).2 $$ [Hrl0 Hr0]
  · isplitl [Hrl0] <;> iassumption
  ihave Hr1 := (r_half (F := F) c 1 (XS m ρ (xp c))).2 $$ [Hrl1 Hr1]
  · isplitl [Hrl1] <;> iassumption
  rw [out_eq]
  unfold bodyPost Φ₁ scr Dat.owesAt Pipeline.owesWithin ow
  rw [show (dats m ρ 0 c).owed t₀.succ = 0 from rfl, bigSep_fin11]
  icases HO with ⟨%W', HO⟩
  isplitl [Hs0 Hs1 Hs2 Hs3 Hs4 Hr0 Hr1 Hr2 Hr3 Hr4 Hz0 Hz1 Hz2 Hz3 Hz4 Hv0 Hv1 Hv2 Hv3 Hv4 Hv5 Hv6 Hv7 Hv8 Hv9 Hv10]
  · isplitl [Hs0 Hs1 Hs2 Hs3 Hs4 Hr0 Hr1 Hr2 Hr3 Hr4 Hz0 Hz1 Hz2 Hz3 Hz4]
    · isplitl [Hs0 Hs1 Hs2 Hs3 Hs4]
      · iapply (s_join (F := F) c)
        isplitl [Hs0]; · iexact Hs0
        isplitl [Hs1]; · iexact Hs1
        isplitl [Hs2]; · iexact Hs2
        isplitl [Hs3]; · iexact Hs3
        iexact Hs4
      isplitl [Hr0 Hr1 Hr2 Hr3 Hr4]
      · iapply (r_join (F := F) c)
        isplitl [Hr0]; · iexact Hr0
        isplitl [Hr1]; · iexact Hr1
        isplitl [Hr2]; · iexact Hr2
        isplitl [Hr3]; · iexact Hr3
        iexact Hr4
      iapply (z_join (F := F) c)
      isplitl [Hz0]; · iexact Hz0
      isplitl [Hz1]; · iexact Hz1
      isplitl [Hz2]; · iexact Hz2
      isplitl [Hz3]; · iexact Hz3
      iexact Hz4
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    iexact Hv10
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  unfold oP
  iexact Hout

end Body

end Cert.KProof

end
-- ==== Proof.Launch.lean ====
/-
The launch: every device's cells, tokens and credits are dealt from the launch's resources, the body runs on every device,
and the run of the whole program ends with each device's result array at `outAt`, its operand unchanged and every counter
at zero.
-/
module

public import proofs.«01_k».proof.Proof.Body
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- The body on device `c` meets what the pipeline asks of it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) (fun _ => bodyPost m ρ c)
  unfold bodyPre' Φ₀ start
  iintro ⟨⟨⟨⟨%K, Hg⟩, Hc, Hl⟩, Hscr⟩, Ho, Hx, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [Hx] <;> iassumption
  · iintro H; iexact H

/-! ## The launch -/

/-- The kernel's own semaphores: every one of the eleven but the barrier. -/
abbrev osem : Fin 10 → SemLoc sig := fun k => csem k.succ

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 11 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- Every cell of every device. -/
def allCells : Finset (GSem nD τ sig) := Finset.univ.map ⟨kcell, kcell_injective⟩

/-- The twelve payments onto a device's cells: two onto its barrier, one onto every other cell. -/
def tokK : Fin 12 → Fin 11 × Bool := Fin.cons (0, true) fun k => (k, false)
theorem tokK_injective : Function.Injective tokK := by decide
/-- A payment's token as it is made: cell, round 0, which payment. -/
abbrev tokOf (cj : Dev nD × Fin 12) : GSem nD τ sig × ℕ × Bool := (kcell (cj.1, (tokK cj.2).1), 0, (tokK cj.2).2)
theorem tokOf_injective : Function.Injective (tokOf : Dev nD × Fin 12 → GSem nD τ sig × ℕ × Bool) := by
  rintro ⟨c, j⟩ ⟨c', j'⟩ h
  have h1 : ((c, (tokK j).1) : Dev nD × Fin 11) = (c', (tokK j').1) := kcell_injective (congrArg Prod.fst h)
  have h2 : (tokK j).2 = (tokK j').2 := congrArg (fun x : GSem nD τ sig × ℕ × Bool => x.2.2) h
  have h3 : j = j' := tokK_injective (Prod.ext (congrArg Prod.snd h1) h2)
  have h4 : c = c' := congrArg Prod.fst h1
  rw [h4, h3]
def allToks : Finset (GSem nD τ sig × ℕ × Bool) := Finset.univ.map ⟨tokOf, tokOf_injective⟩

/-- The launch's ghost element: the pipeline's and the kernel's. -/
def u₀ : UU :=
  (initOf (Pipeline.cells cfgs cellOf_inj) (Pipeline.launchToks cfgs cellOf_inj), initOf allCells allToks)

/-- The tokens of the payments onto device `c`'s own cells. -/
def toks (c : Dev nD) : sProp 𝕄 := bigSep Finset.univ fun j : Fin 12 => dutyTok ER (kcell (c, (tokK j).1)) 0 (tokK j).2

/-- What the launch element deals device `c`. -/
def G (c : Dev nD) : sProp 𝕄 :=
  iprop((bigSep Finset.univ fun k : Fin 11 => roundState ER (Rd m ρ) (kcell (c, k)) 0)
    ∗ (bigSep Finset.univ fun k : Fin 11 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
/-- A family over the twelve payments, written out. -/
theorem bigSep_fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- The launch element makes every device's cells, positions and tokens. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 11 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores, written out; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0) := by
  rw [Pipeline.ownSems0_eq_of_list c osem [0, 1, 2, 3, 4, 5, 6, 7, 8, 9] (by decide) (by decide)]; rfl
omit [FloatOps F] in
/-- the barrier semaphore is the one that no kernel owns; -/
theorem unscopedSems0_eq (c : Dev nD) : (unscopedSems0 c : sProp 𝕄) = semVal (kcell (c, 0)) 0 := by
  unfold unscopedSems0; rw [bigSep_eq_bigSepL_of_eq [SemLoc.reg qB] (by decide) (by decide)]; rfl
omit [FloatOps F] in
/-- together they are the eleven. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 11 => semVal (kcell (c, k)) 0 : sProp 𝕄) := by
  rw [ownSems0_eq, unscopedSems0_eq, bigSep_fin11]

/-- One device's counters and round states become its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 11 => semVal (kcell (c, k)) 0) ∗ bigSep Finset.univ fun k : Fin 11 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over the devices, its members dealt to the `x` partners. -/
theorem deal_x (Φ : Dev nD → sProp 𝕄) : bigSep Finset.univ Φ = bigSep Finset.univ fun c : Dev nD => Φ (xp c) := bigSep_univ_equiv xpE Φ
omit [FloatOps F] in
/-- A family over the devices, its members dealt to the `z` partners. -/
theorem deal_z (Φ : Dev nD → sProp 𝕄) : bigSep Finset.univ Φ = bigSep Finset.univ fun c : Dev nD => Φ (zp c) := bigSep_univ_equiv zpE Φ

/-- The tokens dealt to the devices that pay: a landing's and a barrier's to the partner, a departure's to the device. -/
theorem toks_around : (bigSep Finset.univ fun c : Dev nD => (toks c : sProp 𝕄)) ⊢ bigSep Finset.univ fun c : Dev nD => payToks c := by
  have h (c : Dev nD) : (toks c : sProp 𝕄) = iprop(dutyTok ER (kcell (c, 0)) 0 true ∗ dutyTok ER (kcell (c, 0)) 0 false ∗ dutyTok ER (kcell (c, 1)) 0 false
      ∗ dutyTok ER (kcell (c, 2)) 0 false ∗ dutyTok ER (kcell (c, 3)) 0 false ∗ dutyTok ER (kcell (c, 4)) 0 false ∗ dutyTok ER (kcell (c, 5)) 0 false
      ∗ dutyTok ER (kcell (c, 6)) 0 false ∗ dutyTok ER (kcell (c, 7)) 0 false ∗ dutyTok ER (kcell (c, 8)) 0 false ∗ dutyTok ER (kcell (c, 9)) 0 false
      ∗ dutyTok ER (kcell (c, 10)) 0 false) := by unfold toks; rw [bigSep_fin12]; rfl
  rw [bigSep_congr fun c _ => h c]
  unfold payToks
  simp only [bigSep_sep']
  rw [deal_z (F := F) (fun c : Dev nD => (dutyTok ER (kcell (c, 0)) 0 true : sProp 𝕄)),
    deal_x (F := F) (fun c : Dev nD => (dutyTok ER (kcell (c, 0)) 0 false : sProp 𝕄)),
    deal_x (F := F) (fun c : Dev nD => (dutyTok ER (kcell (c, 4)) 0 false : sProp 𝕄)),
    deal_x (F := F) (fun c : Dev nD => (dutyTok ER (kcell (c, 5)) 0 false : sProp 𝕄)),
    deal_x (F := F) (fun c : Dev nD => (dutyTok ER (kcell (c, 6)) 0 false : sProp 𝕄)),
    deal_z (F := F) (fun c : Dev nD => (dutyTok ER (kcell (c, 9)) 0 false : sProp 𝕄)),
    deal_z (F := F) (fun c : Dev nD => (dutyTok ER (kcell (c, 10)) 0 false : sProp 𝕄))]
  iintro ⟨H0t, H0f, H1, H2, H3, H4, H5, H6, H7, H8, H9, H10⟩
  isplitl [H0f]; · iexact H0f
  isplitl [H0t]; · iexact H0t
  isplitl [H1 H2 H3]
  · isplitl [H1]; · iexact H1
    isplitl [H2] <;> iassumption
  isplitl [H4 H5 H6]
  · isplitl [H4]; · iexact H4
    isplitl [H5] <;> iassumption
  isplitl [H7 H8]
  · isplitl [H7] <;> iassumption
  isplitl [H9] <;> iassumption

omit [FloatOps F] in
/-- A shared fact goes with every member of a family. -/
theorem bigSep_with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants, positions and tokens, sorted to the devices that use them. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 11 => iprop(∃ κ : ℕ, cellInv ER (Rd m ρ) κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄))]
  iintro ⟨HI, ⟨Hat, #HR⟩, Htok⟩
  ihave HK := (BI.bigSep_exists_pi Finset.univ (fun (ck : Dev nD × Fin 11) (κ : ℕ) => (cellInv ER (Rd m ρ) κ (kcell ck) : sProp 𝕄))) $$ HI
  icases HK with ⟨%K, #HI⟩
  ihave Htk := (toks_around (F := F)) $$ Htok
  iapply (bigSep_with_shared (R := records m ρ K) (Φ := fun c : Dev nD => iprop((bigSep Finset.univ fun k : Fin 11 => (atPos ER (kcell (c, k)) 0 ∅ 0 : sProp 𝕄)) ∗ payToks c))
    fun c _ => by
      unfold G' ghost
      iintro H
      iexists K; iexact H)
  isplitr
  · unfold records; isplitl; · iexact HI
    iexact HR
  · iapply (Entails.of_eq (bigSep_sep' Finset.univ (fun c : Dev nD => bigSep Finset.univ fun k : Fin 11 => (atPos ER (kcell (c, k)) 0 ∅ 0 : sProp 𝕄)) payToks).symm)
    isplitl [Hat]; · iexact Hat
    iexact Htk

/-- The global step: every device's counters at once become the shared record and each device's ghost state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch's credit -/

omit [FloatOps F] in
/-- A due of every device at its `x` partner's cell `k` is a credit of every device at its own. -/
theorem due_x (k : Fin 11) (n : ℕ) (c : Dev nD) :
    (Pipeline.launchCred (fun d => tallyAt (kcell (xp d, k)) () n) c : sProp 𝕄) ⊢ cred (tallyAt (kcell (c, k)) () n) :=
  Pipeline.launchCred_tallyAt (csem k) xp xp xp_xp xp_xp () n c
omit [FloatOps F] in
/-- A due of every device at its `z` partner's cell `k` is a credit of every device at its own. -/
theorem due_z (k : Fin 11) (n : ℕ) (c : Dev nD) :
    (Pipeline.launchCred (fun d => tallyAt (kcell (zp d, k)) () n) c : sProp 𝕄) ⊢ cred (tallyAt (kcell (c, k)) () n) :=
  Pipeline.launchCred_tallyAt (csem k) zp zp zp_zp zp_zp () n c

omit [FloatOps F] in
/-- What the launch credits device `c` with: what all devices owe its cells. -/
theorem creds_intro (c : Dev nD) : (Pipeline.launchCred O₀ c : sProp 𝕄) ⊢ creds c := by
  have h : (Pipeline.launchCred O₀ c : sProp 𝕄) = iprop((((((Pipeline.launchCred (fun d => tallyAt (kcell (zp d, 10)) () (amt 10)) c
      ∗ Pipeline.launchCred (fun d => tallyAt (kcell (zp d, 9)) () (amt 9)) c)
      ∗ Pipeline.launchCred (fun d => tallyAt (kcell (xp d, 6)) () (amt 6)) c)
      ∗ Pipeline.launchCred (fun d => tallyAt (kcell (xp d, 5)) () (amt 5)) c)
      ∗ Pipeline.launchCred (fun d => tallyAt (kcell (xp d, 4)) () (amt 4)) c)
      ∗ Pipeline.launchCred (fun d => tallyAt (kcell (zp d, 0)) () 1) c)
      ∗ Pipeline.launchCred (fun d => tallyAt (kcell (xp d, 0)) () 1) c) := by
    rw [← Pipeline.launchCred_add, ← Pipeline.launchCred_add, ← Pipeline.launchCred_add, ← Pipeline.launchCred_add, ← Pipeline.launchCred_add, ← Pipeline.launchCred_add]
    rfl
  rw [h]
  iintro ⟨⟨⟨⟨⟨⟨H10, H9⟩, H6⟩, H5⟩, H4⟩, Hz⟩, Hx⟩
  ihave H10 := (due_z (F := F) 10 (amt 10) c) $$ H10
  ihave H9 := (due_z (F := F) 9 (amt 9) c) $$ H9
  ihave H6 := (due_x (F := F) 6 (amt 6) c) $$ H6
  ihave H5 := (due_x (F := F) 5 (amt 5) c) $$ H5
  ihave H4 := (due_x (F := F) 4 (amt 4) c) $$ H4
  ihave Hz := (due_z (F := F) 0 1 c) $$ Hz
  ihave Hx := (due_x (F := F) 0 1 c) $$ Hx
  unfold creds
  isplitl [Hz Hx]
  · iapply (show iprop(cred (tallyAt (kcell (c, 0)) () 1) ∗ cred (tallyAt (kcell (c, 0)) () 1)) ⊢ (cred (tallyAt (kcell (c, 0)) () 2) : sProp 𝕄) from
      (cred_add _ _).2.trans (Entails.of_eq (congrArg cred (tallyAt_add (kcell (c, 0)) () 1 1))))
    isplitl [Hz] <;> iassumption
  isplitl [H4]; · iexact H4
  isplitl [H5]; · iexact H5
  isplitl [H6]; · iexact H6
  isplitl [H9] <;> iassumption

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [← sems0_eq]
  iintro ⟨Hr, HzB, Hz⟩
  isplitl [HzB]; · iexact HzB
  isplitl [Hz]; · iexact Hz
  iexact Hr

/-- The pipeline's own waits lie below everything a device owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (by fin_cases w <;> fin_cases s <;> exact Nat.le_refl 0) _ (above_O₀ c)
    · exact mayWait_zero c _

/-! ### The run -/

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the program on the mesh ends,
    and every final state has each window's array at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KProof

end
-- ==== Proof.Value.lean ====
/-
The value: where each device starts with its half of the whole array, every device ends with the sum of the two halves,
which is what the reference computes.
-/
module

public import proofs.«01_k».proof.Proof.Launch
public import proofs.«01_k».proof.Proof.Gen.ReferenceIdeal
public import Idealize.ShloMosaic.Lib.Layout
public import Idealize.ShloMosaic.Lib.Pipeline.ValueKit.Geometry
public import Idealize.ShloMosaic.Lib.Pointwise.Reduce
public import Idealize.ShloMosaic.Lib.Pointwise.Reshape
public import Idealize.ShloMosaic.Lib.ValueLayout

@[expose] public section

noncomputable section

namespace Cert.KProof

open Cert.KernelIdeal Cert.KernelIdeal.Gen
open Idealize.ShloMosaic
open Idealize.ShloMosaic.TcCoe
open Idealize.SL Idealize.SL.RA Idealize.SL.BI Idealize.SL.Sem

/-! ## The result array after the run -/

section Run

variable {F : FTy → Type} [FloatOps F]
variable (m : (ℓ : Loc nD τ sig) → Buf (Elt F) ℓ) (ρ : Dev nD → PrngReg)

/-- The result's array after the run is what the body left in the staging buffer. -/
theorem finalA_out (c : Dev nD) : finalA m ρ c (1 : Fin 2) = outAt m ρ c :=
  (dats m ρ 0 c).arrAt_eq_of_after_last (1 : Fin 2) t₀ (by decide +kernel) (outAt m ρ c) fun j => rfl

/-- The body's operand is the whole of the device's array. -/
theorem xstg_eq (c : Dev nD) : xstg m ρ c = m ((c : Thread nD τ).loc main_arg0) := by
  funext i
  have h : (win0_0.blk (0 : Fin 1)).view.emb i = i := by
    funext a; apply Fin.ext
    match a with
    | ⟨0, _⟩ => show 0 * 512 + 1 * (i 0).val = (i 0).val; omega
    | ⟨1, _⟩ => show 0 * 512 + 1 * (i 1).val = (i 1).val; omega
  exact congrArg (m ((c : Thread nD τ).loc main_arg0)) h

/-- What a device sends is the whole of its array. -/
theorem XS_eq (c : Dev nD) : XS m ρ c = m ((c : Thread nD τ).loc main_arg0) := by
  unfold XS k0_pay1
  rw [xstg_eq, shapeCast_id]
  exact shapeCast_id _ _

end Run

/-! ## The sum of the two halves -/

/-- The half of the whole array that the devices at a given `x` hold: its rows from `512 x` on. -/
def half (X : (⟨2, ![1024, 512]⟩ : Shape).Idx → EReal) (x : Fin 2) (i : S512x512.Idx) : EReal :=
  X (ix2 ⟨512 * x.val + (i 0).val, by have := (i 0).isLt; change (i 0).val < 512 at this; omega⟩ (i 1))

/-- The two halves added. -/
def total (X : (⟨2, ![1024, 512]⟩ : Shape).Idx → EReal) (i : S512x512.Idx) : EReal := half X 0 i + half X 1 i

/-- The `x` coordinate of a device. -/
def xc (c : Dev nD) : Fin 2 := ⟨c.val / 16, by have := c.isLt; change c.val < 32 at this; omega⟩
/-- A partner along `x` has the other `x` coordinate, -/
theorem xc_xp (c : Dev nD) : xc (xp c) = 1 - xc c := by revert c; decide +kernel
/-- a partner along `z` the same. -/
theorem xc_zp (c : Dev nD) : xc (zp c) = xc c := by revert c; decide +kernel

/-- How many halves down the whole array a device's block begins: as many as its `x` coordinate says. -/
theorem block_row (c : Dev nD) : Layout.meshLin [2, 4, 4] c.val [0] = c.val / 16 := by revert c; decide +kernel

/-- A device's block of the whole array is its half. -/
theorem block_eq (X : (⟨2, ![1024, 512]⟩ : Shape).Idx → EReal) (c : Dev nD) :
    Layout.blockN ⟨2, ![512, 512]⟩ ⟨2, ![1024, 512]⟩ (Layout.meshBlock [2, 4, 4] ![[0], []] c) X = half X (xc c) := by
  funext i
  rw [Layout.blockN_apply]
  unfold half
  refine congrArg X (funext fun a => Fin.ext ?_)
  rw [Layout.TilesN.idx_val]
  match a with
  | ⟨0, _⟩ =>
    show Layout.meshLin [2, 4, 4] c.val [0] * 512 + (i 0).val = 512 * (c.val / 16) + (i 0).val
    rw [block_row]; omega
  | ⟨1, _⟩ =>
    show 0 * 512 + (i 1).val = (i 1).val
    omega

/-- A half and the other half are both halves, in whichever order. -/
theorem half_add (X : (⟨2, ![1024, 512]⟩ : Shape).Idx → EReal) (x : Fin 2) (i : S512x512.Idx) :
    half X x i + half X (1 - x) i = total X i := by
  unfold total
  match x with
  | ⟨0, _⟩ => rfl
  | ⟨1, _⟩ => exact add_comm _ _

/-- From devices that hold their halves, every device computes the sum of the halves. -/
theorem outAt_eq (m : (ℓ : Loc nD τ sig) → Buf (Elt Ideal) ℓ) (ρ : Dev nD → PrngReg)
    (X : (⟨2, ![1024, 512]⟩ : Shape).Idx → EReal)
    (hm : ∀ c : Dev nD, m ((c : Thread nD τ).loc main_arg0) = half X (xc c)) (c : Dev nD) :
    outAt m ρ c = total X := by
  have hx (d : Dev nD) : XS m ρ d = half X (xc d) := (XS_eq m ρ d).trans (hm d)
  have hs (d : Dev nD) (hd : xc d = 1 - xc c) (i : S512x512.Idx) : sum2 (XS m ρ c) (XS m ρ d) i = total X i := by
    rw [hx, hx, hd]
    exact half_add X (xc c) i
  funext i
  unfold outAt
  split
  · exact hs _ ((xc_xp _).trans (congrArg (1 - ·) (xc_zp c))) i
  · exact hs _ (xc_xp c) i

/-! ## The reference -/

/-- The reference's term of the whole array is the sum of the halves. -/
theorem ref_eq (X : (⟨2, ![1024, 512]⟩ : Shape).Idx → EReal)
    (hc : (⟨2, ![1024, 512]⟩ : Shape).ShapeCasts ⟨3, ![2, 512, 512]⟩) (hb : FTy.bits .bf16 < FTy.bits .f32)
    (hr : (⟨3, ![2, 512, 512]⟩ : Shape).ReducesTo [0] ⟨2, ![512, 512]⟩) (hu : 0 < (⟨0, ![]⟩ : Shape).numel) :
    (truncf (F := Ideal) .bf16 (Host.reduceAdd (F := Ideal) (extf (F := Ideal) (φ := .bf16) .f32 (shapeCast ⟨3, ![2, 512, 512]⟩ X hc) hb)
      (constant ⟨0, ![]⟩ .f32 0x00000000#32) hr hu) hb : (⟨2, ![512, 512]⟩ : Shape).Idx → EReal) = total X := by
  funext i
  have hcast (k : Fin 2) (a b : Fin 512) : shapeCast ⟨3, ![2, 512, 512]⟩ X hc (ix3 k a b)
      = X (ix2 ⟨512 * k.val + a.val, by omega⟩ b) :=
    shapeCast_apply X hc _ _ (by
      rw [Shape.rowMajor_val_three, Shape.rowMajor_val_two]
      show _ = _
      simp
      omega)
  show Ideal.hostReduceAdd hr (shapeCast ⟨3, ![2, 512, 512]⟩ X hc) (Ideal.ofBits .f32 0x00000000#32) i = total X i
  rw [Ideal.hostReduceAdd_r3_a0, Ideal.ofBits_zero_f32, zero_add, Fin.sum_univ_two]
  rw [hcast, hcast]
  rfl

end Cert.KProof

end
-- ==== Proof.lean ====
/-
  The proof of the claim: both programs of the kernel run and end quiet (one run, proved at any float values, serves both),
  the reference runs and ends quiet, and every device's result is the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- At any float values, the kernel on the mesh terminates from any memory with its operand unchanged and every counter at
    zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c (0 : Fin 2)).trans (Cert.KProof.finalA_x m ρ c), h.2⟩)
    (Cert.KProof.run_main m ρ)

/-- So does the kernel read at exact values. -/
theorem frame_kernelIdeal : Cert.quiescent_KernelIdeal := fun m ρ _ => frame_any (F := Ideal) m ρ

/-- The two programs' tables of bodies are the same, entry by entry. -/
theorem bodies_same : (Cert.Kernel.defs₀ (F := Bits) : Defs _ _ _ _ Cert.Kernel.Λ₀) = Cert.KernelIdeal.defs₀ (F := Bits) := by
  funext p ℓ a
  cases p with
  | tc =>
    match ℓ, a with
    | ⟨0, _⟩, (t, s) => rfl
  | scScalar _ => rfl
  | scVector _ _ => rfl

/-- The kernel at machine floats, whose text is the same, terminates likewise. -/
theorem frame_kernel : Cert.quiescent_Kernel := fun m ρ _ => by
  unfold Cert.Kernel.defs
  rw [bodies_same]
  exact frame_any (F := Bits) m ρ

/-- The reference terminates with its argument unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From devices that hold their blocks of the reference's argument, every device's result is the reference's result: the
    sum of the two halves of the argument. -/
theorem algebraic : Cert.algebraic_KernelIdeal_ReferenceIdeal := fun m ρ m' ρ' _ hm => by
  refine ⟨Cert.KProof.total (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c =>
        ⟨(h.1 c (1 : Fin 2)).trans ((Cert.KProof.finalA_out m ρ c).trans
            (Cert.KProof.outAt_eq m ρ _ (fun d => (hm d).trans (Cert.KProof.block_eq _ d)) c)),
          (h.1 c (0 : Fin 2)).trans (Cert.KProof.finalA_x m ρ c)⟩)
      (Cert.KProof.run_main (F := Ideal) m ρ)
  · exact (θ_run Cert.ReferenceIdeal.defs _ _).mono (fun _ h =>
        ⟨(h 0).1.trans (Cert.KProof.ref_eq _ _ _ _ _), (h 0).2⟩)
      (Cert.ReferenceIdeal.Value.run (F := Ideal) m' ρ')

/-- Everything that is claimed. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
